-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x1024 .f32) (main_arg2 : FVec F S1x4096x64x128 .f32) (main_arg3 : FVec F S1x4096x64x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x2048x1024 .f32) (main_arg1 : FVec F S1024x8192 .f32) (main_arg2 : FVec F S1x4096x64x128 .f32) (main_arg3 : FVec F S1x4096x64x128 .f32) (main_arg4 : FVec F S8192x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩
abbrev S256x1024 : Shape := ⟨2, ![256, 1024]⟩
abbrev S4096x64x128 : Shape := ⟨3, ![4096, 64, 128]⟩
abbrev S4096x8x128 : Shape := ⟨3, ![4096, 8, 128]⟩
abbrev S16x4x64x8x128 : Shape := ⟨5, ![16, 4, 64, 8, 128]⟩
abbrev S4x8x16x64x128 : Shape := ⟨5, ![4, 8, 16, 64, 128]⟩
abbrev S4x8x1024x128 : Shape := ⟨4, ![4, 8, 1024, 128]⟩
abbrev S8x256x1024 : Shape := ⟨3, ![8, 256, 1024]⟩
abbrev S4x256x1024 : Shape := ⟨3, ![4, 256, 1024]⟩
abbrev S3x256x1024 : Shape := ⟨3, ![3, 256, 1024]⟩
abbrev S4 : Shape := ⟨1, ![4]⟩
abbrev S3 : Shape := ⟨1, ![3]⟩
abbrev S2 : Shape := ⟨1, ![2]⟩
abbrev S1 : Shape := ⟨1, ![1]⟩
abbrev S1024x128 : Shape := ⟨2, ![1024, 128]⟩
abbrev S256x128 : Shape := ⟨2, ![256, 128]⟩
abbrev S1x256x128 : Shape := ⟨3, ![1, 256, 128]⟩
abbrev S8x256x128 : Shape := ⟨3, ![8, 256, 128]⟩
abbrev S8x64x128 : Shape := ⟨3, ![8, 64, 128]⟩
abbrev S1x8x1024x128 : Shape := ⟨4, ![1, 8, 1024, 128]⟩
abbrev S8x1024x128 : Shape := ⟨3, ![8, 1024, 128]⟩
abbrev S8x64x1024 : Shape := ⟨3, ![8, 64, 1024]⟩
abbrev S8x64 : Shape := ⟨2, ![8, 64]⟩
abbrev S8x256 : Shape := ⟨2, ![8, 256]⟩
abbrev S8x256x1 : Shape := ⟨3, ![8, 256, 1]⟩
abbrev S128x1024 : Shape := ⟨2, ![128, 1024]⟩

abbrev nBuf : Space → Nat
  | .hbm => 50
  | .vmem => 12
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x1024, .f32⟩
  | .hbm, ⟨12, _⟩ => ⟨S256x1024, .bf16⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S4096x64x128, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S4096x8x128, .f32⟩
  | .hbm, ⟨28, _⟩ => ⟨S16x4x64x8x128, .f32⟩
  | .hbm, ⟨29, _⟩ => ⟨S4x8x16x64x128, .f32⟩
  | .hbm, ⟨30, _⟩ => ⟨S4x8x1024x128, .f32⟩
  | .hbm, ⟨31, _⟩ => ⟨S4x8x1024x128, .bf16⟩
  | .hbm, ⟨32, _⟩ => ⟨S4096x64x128, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S4096x8x128, .f32⟩
  | .hbm, ⟨43, _⟩ => ⟨S16x4x64x8x128, .f32⟩
  | .hbm, ⟨44, _⟩ => ⟨S4x8x16x64x128, .f32⟩
  | .hbm, ⟨45, _⟩ => ⟨S4x8x1024x128, .f32⟩
  | .hbm, ⟨46, _⟩ => ⟨S4x8x1024x128, .bf16⟩
  | .hbm, ⟨47, _⟩ => ⟨S1024x1024, .bf16⟩
  | .hbm, ⟨48, _⟩ => ⟨S256x1024, .f32⟩
  | .hbm, ⟨49, _⟩ => ⟨S1x256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S8x256x1024, .bf16⟩
  | .local _ .vmem, ⟨5, _⟩ => ⟨S8x256x1024, .f32⟩
  | .local _ .vmem, ⟨6, _⟩ => ⟨S4x256x1024, .bf16⟩
  | .local _ .vmem, ⟨7, _⟩ => ⟨S4x256x1024, .bf16⟩
  | .local _ .vmem, ⟨8, _⟩ => ⟨S3x256x1024, .bf16⟩
  | .local _ .vmem, ⟨9, _⟩ => ⟨S3x256x1024, .bf16⟩
  | .local _ .vmem, ⟨10, _⟩ => ⟨S4x8x1024x128, .bf16⟩
  | .local _ .vmem, ⟨11, _⟩ => ⟨S4x8x1024x128, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_c_9 : Ref sig .tc := ⟨.hbm, 40, rfl⟩
abbrev main_c_10 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_11 : BitVec 32 := 1#32
  let v18 : BitVec 32 := Scalar.muli v5 c1_i32_11
  let v19 : BitVec 32 := Scalar.addi c0_i32_12 v18
  v19.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_14 : BitVec 32 := 1#32
  let v20 : BitVec 32 := Scalar.muli v7 c1_i32_14
  let v21 : BitVec 32 := Scalar.addi c0_i32_15 v20
  v21.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_19 : BitVec 32 := 1#32
  let v22 : BitVec 32 := Scalar.muli v7 c1_i32_19
  let v23 : BitVec 32 := Scalar.addi c0_i32_20 v22
  v23.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_29 : BitVec 32 := 1#32
  let v32 : BitVec 32 := Scalar.muli v5 c1_i32_29
  let v33 : BitVec 32 := Scalar.addi c0_i32_30 v32
  v33.toNat
def k0_dev5 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_137 : BitVec 32 := 1#32
  let v186 : BitVec 32 := Scalar.muli v7 c1_i32_137
  let v187 : BitVec 32 := Scalar.addi c0_i32_138 v186
  v187.toNat
def k0_dev6 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_157 : BitVec 32 := 1#32
  let v204 : BitVec 32 := Scalar.muli v5 c1_i32_157
  let v205 : BitVec 32 := Scalar.addi c0_i32_158 v204
  v205.toNat
def k0_dev7 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_273 : BitVec 32 := 1#32
  let v354 : BitVec 32 := Scalar.muli v7 c1_i32_273
  let v355 : BitVec 32 := Scalar.addi c0_i32_274 v354
  v355.toNat
def k0_dev8 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_292 : BitVec 32 := 1#32
  let v372 : BitVec 32 := Scalar.muli v5 c1_i32_292
  let v373 : BitVec 32 := Scalar.addi c0_i32_293 v372
  v373.toNat
def k0_dev9 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_408 : BitVec 32 := 1#32
  let v522 : BitVec 32 := Scalar.muli v7 c1_i32_408
  let v523 : BitVec 32 := Scalar.addi c0_i32_409 v522
  v523.toNat
def k0_dev10 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_531 : BitVec 32 := 1#32
  let v678 : BitVec 32 := Scalar.muli v5 c1_i32_531
  let v679 : BitVec 32 := Scalar.addi c0_i32_532 v678
  v679.toNat
def k0_dev11 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_654 : BitVec 32 := 1#32
  let v834 : BitVec 32 := Scalar.muli v7 c1_i32_654
  let v835 : BitVec 32 := Scalar.addi c0_i32_655 v834
  v835.toNat
def k0_dev12 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_781 : BitVec 32 := 1#32
  let v994 : BitVec 32 := Scalar.muli v5 c1_i32_781
  let v995 : BitVec 32 := Scalar.addi c0_i32_782 v994
  v995.toNat
def k0_dev13 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_810 : BitVec 32 := 1#32
  let v1022 : BitVec 32 := Scalar.muli v7 c1_i32_810
  let v1023 : BitVec 32 := Scalar.addi c0_i32_811 v1022
  v1023.toNat
def k0_dev14 (d0 : Dev nD) : Nat :=
  let c0_i32_938 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_937 : BitVec 32 := 1#32
  let v1182 : BitVec 32 := Scalar.muli v5 c1_i32_937
  let v1183 : BitVec 32 := Scalar.addi c0_i32_938 v1182
  v1183.toNat
def k0_dev15 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_966 : BitVec 32 := 1#32
  let v1210 : BitVec 32 := Scalar.muli v7 c1_i32_966
  let v1211 : BitVec 32 := Scalar.addi c0_i32_967 v1210
  v1211.toNat
def k0_dev16 (d0 : Dev nD) : Nat :=
  let c0_i32_1094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1093 : BitVec 32 := 1#32
  let v1370 : BitVec 32 := Scalar.muli v7 c1_i32_1093
  let v1371 : BitVec 32 := Scalar.addi c0_i32_1094 v1370
  v1371.toNat
def k0_dev17 (d0 : Dev nD) : Nat :=
  let c0_i32_1258_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1257_r0 : BitVec 32 := 1#32
  let v1492_r0 : BitVec 32 := Scalar.muli v5 c1_i32_1257_r0
  let v1493_r0 : BitVec 32 := Scalar.addi c0_i32_1258_r0 v1492_r0
  v1493_r0.toNat
def k0_dev18 (d0 : Dev nD) : Nat :=
  let c0_i32_1261_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1260_r0 : BitVec 32 := 1#32
  let v1494_r0 : BitVec 32 := Scalar.muli v7 c1_i32_1260_r0
  let v1495_r0 : BitVec 32 := Scalar.addi c0_i32_1261_r0 v1494_r0
  v1495_r0.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x2048x8192 : Shape := ⟨3, ![1, 2048, 8192]⟩
abbrev S1x2048x64x128 : Shape := ⟨4, ![1, 2048, 64, 128]⟩
abbrev S2048 : Shape := ⟨1, ![2048]⟩
abbrev S_ : Shape := ⟨0, ![]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩
abbrev S1x64x2048x4096 : Shape := ⟨4, ![1, 64, 2048, 4096]⟩
abbrev S1x1x2048x4096 : Shape := ⟨4, ![1, 1, 2048, 4096]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 137
  | .vmem => 0
  | .smem => 0
  | _ => 0

abbrev hbmTy0_0 (i : Nat) : BufTy := match i % 128 with
  | 0 => ⟨S1x2048x1024, .f32⟩
  | 1 => ⟨S1024x8192, .f32⟩
  | 2 => ⟨S1x4096x64x128, .f32⟩
  | 3 => ⟨S1x4096x64x128, .f32⟩
  | 4 => ⟨S8192x1024, .f32⟩
  | 5 => ⟨S1x2048x8192, .f32⟩
  | 6 => ⟨S1x2048x64x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S2048x4096, .i32⟩
  | 48 => ⟨S2048x4096, .i32⟩
  | 49 => ⟨S2048x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x4096, .i32⟩
  | 95 => ⟨S2048x4096, .i32⟩
  | 96 => ⟨S2048x4096, .i1⟩
  | 97 => ⟨S2048x4096, .i1⟩
  | 98 => ⟨S1x64x2048x4096, .f32⟩
  | 99 => ⟨S_, .f32⟩
  | 100 => ⟨S1x64x2048x4096, .f32⟩
  | 101 => ⟨S1x64x2048x4096, .f32⟩
  | 102 => ⟨S1x1x2048x4096, .i1⟩
  | 103 => ⟨S_, .f32⟩
  | 104 => ⟨S_, .f32⟩
  | 105 => ⟨S1x64x2048x4096, .i1⟩
  | 106 => ⟨S1x64x2048x4096, .f32⟩
  | 107 => ⟨S1x64x2048x4096, .f32⟩
  | 108 => ⟨S_, .f32⟩
  | 109 => ⟨S1x64x2048, .f32⟩
  | 110 => ⟨S1x64x2048x1, .f32⟩
  | 111 => ⟨S1x64x2048x4096, .f32⟩
  | 112 => ⟨S1x64x2048x4096, .f32⟩
  | 113 => ⟨S1x64x2048x4096, .f32⟩
  | 114 => ⟨S_, .i1⟩
  | 115 => ⟨S2048, .i1⟩
  | 116 => ⟨S1x1x2048x1, .i1⟩
  | 117 => ⟨S_, .f32⟩
  | 118 => ⟨S1x64x2048, .f32⟩
  | 119 => ⟨S1x64x2048x1, .f32⟩
  | 120 => ⟨S_, .f32⟩
  | 121 => ⟨S_, .f32⟩
  | 122 => ⟨S1x64x2048x1, .i1⟩
  | 123 => ⟨S1x64x2048x1, .f32⟩
  | 124 => ⟨S1x64x2048x1, .f32⟩
  | 125 => ⟨S1x64x2048x4096, .f32⟩
  | 126 => ⟨S1x64x2048x4096, .f32⟩
  | 127 => ⟨S1x1x2048x1, .i1⟩
  | _ => ⟨S1x2048x1024, .f32⟩

abbrev hbmTy0_1 (i : Nat) : BufTy := match i % 128 with
  | 0 => ⟨S_, .f32⟩
  | 1 => ⟨S_, .f32⟩
  | 2 => ⟨S1x64x2048x4096, .i1⟩
  | 3 => ⟨S1x64x2048x4096, .f32⟩
  | 4 => ⟨S1x64x2048x4096, .f32⟩
  | 5 => ⟨S1x64x128x2048, .f32⟩
  | 6 => ⟨S1x2048x64x128, .f32⟩
  | 7 => ⟨S1x2048x8192, .f32⟩
  | 8 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Contents.lean ====
/-
# What each row of the scratch buffers holds

Device `c` gathers the `x` block of every other device (row `s` of the gather buffer is the block of device `c + s`),
computes for each row its own heads' share of the attention output, and passes partial sums round the ring in both
directions. This module names those contents: they are the payloads that the transfers carry.
-/
module

public import proofs.«01_k».proof.Proof.Gen.KernelIdeal
public import proofs.«01_k».proof.Proof.Gen.KernelIdeal.Skeleton

@[expose] public section

noncomputable section

namespace Cert.KernelIdeal.Exchange

open Cert.KernelIdeal Cert.KernelIdeal.Gen
open Idealize.ShloMosaic Idealize.ShloMosaic.TcCoe

variable {F : FTy → Type} [FloatOps F]

/-! ## The ring -/

/-- The device `s` places to the right of `c`. -/
def sh (s : ℕ) (c : Dev nD) : Dev nD := ⟨(c.val + s) % 8, Nat.mod_lt _ (by decide)⟩
/-- The right and the left neighbour. -/
abbrev nxt (c : Dev nD) : Dev nD := sh 1 c
abbrev prv (c : Dev nD) : Dev nD := sh 7 c

theorem sh_sh (s t : ℕ) (c : Dev nD) : sh s (sh t c) = sh (t + s) c := by
  apply Fin.ext; simp only [sh]; omega
theorem sh_mod (s : ℕ) (c : Dev nD) : sh (s % 8) c = sh s c := by
  apply Fin.ext; simp only [sh]; omega
theorem sh_zero (c : Dev nD) : sh 0 c = c := by
  apply Fin.ext; simp only [sh]; have : c.val < 8 := c.isLt; omega
theorem prv_nxt (c : Dev nD) : prv (nxt c) = c := (sh_sh 7 1 c).trans ((sh_mod 8 c).symm.trans (sh_zero c))
theorem nxt_prv (c : Dev nD) : nxt (prv c) = c := (sh_sh 1 7 c).trans ((sh_mod 8 c).symm.trans (sh_zero c))

/-- One step round the ring, as a bijection. -/
def ring : Dev nD ≃ Dev nD := ⟨nxt, prv, prv_nxt, nxt_prv⟩

/-! ## The operands -/

/-- What the region is entered with on every device: the block of `x`, the scaled query weights, the keys and values of
    the device's heads by phase, the output weights. -/
structure Ins (F : FTy → Type) [FloatOps F] where
  x : Dev nD → Vec F S256x1024 .bf16
  wq : Dev nD → Vec F S1024x1024 .bf16
  kt : Dev nD → Vec F S4x8x1024x128 .bf16
  vt : Dev nD → Vec F S4x8x1024x128 .bf16
  wo : Dev nD → Vec F S1024x1024 .bf16

/-! ## One row's partial output -/

/-- Columns `o 1 … o 1 + 128` of the query weights. -/
abbrev wqCut (o : Fin 2 → ℕ) (h : ∀ a, o a + S1024x128.size a ≤ S1024x1024.size a) (w : Vec F S1024x1024 .bf16) : Vec F S1024x128 .bf16 :=
  fun j => w ((Rect.unit (s := S1024x1024) o S1024x128.size h).toLoadRect.idx j)
/-- Rows `o 0 … o 0 + 128` of the output weights. -/
abbrev woCut (o : Fin 2 → ℕ) (h : ∀ a, o a + S128x1024.size a ≤ S1024x1024.size a) (w : Vec F S1024x1024 .bf16) : Vec F S128x1024 .bf16 :=
  fun j => w ((Rect.unit (s := S1024x1024) o S128x1024.size h).toLoadRect.idx j)
/-- Phase `o 0` of the keys or of the values. -/
abbrev kvCut (o : Fin 4 → ℕ) (h : ∀ a, o a + S1x8x1024x128.size a ≤ S4x8x1024x128.size a) (w : Vec F S4x8x1024x128 .bf16) : Vec F S1x8x1024x128 .bf16 :=
  fun j => w ((Rect.unit (s := S4x8x1024x128) o S1x8x1024x128.size h).toLoadRect.idx j)

/-- One head's queries: the row's block times 128 columns of the weights. -/
abbrev headQ (P : Vec F S1x256x1024 .bf16) (o : Fin 2 → ℕ) (h : ∀ a, o a + S1024x128.size a ≤ S1024x1024.size a) (w : Vec F S1024x1024 .bf16) : FVec F S256x128 .f32 :=
  matmul dot_S256x1024_S1024x128_S256x128_1_0_0_1_n_n none (shapeCast S256x1024 P shapeCasts_S1x256x1024_S256x1024)
    (shapeCast S1024x128 (wqCut o h w) shapeCasts_S1024x128_S1024x128) (constant S256x128 .f32 0x00000000#32)

/-- The scaled queries of one row's block, head by head. -/
def queries (P : Vec F S1x256x1024 .bf16) (wq : Vec F S1024x1024 .bf16) : FVec F S8x256x128 .bf16 :=
  k0_pay5 (k0_pay2 P)
    (k0_pay3 P (wqCut ![0, 0] inb_S1024x1024_S1024x128_0_0 wq)) (k0_pay4 P (wqCut ![0, 128] inb_S1024x1024_S1024x128_0_128 wq))
    (wqCut ![0, 256] inb_S1024x1024_S1024x128_0_256 wq) (wqCut ![0, 384] inb_S1024x1024_S1024x128_0_384 wq)
    (wqCut ![0, 512] inb_S1024x1024_S1024x128_0_512 wq) (wqCut ![0, 640] inb_S1024x1024_S1024x128_0_640 wq)
    (wqCut ![0, 768] inb_S1024x1024_S1024x128_0_768 wq) (wqCut ![0, 896] inb_S1024x1024_S1024x128_0_896 wq)

/-- One phase's exponentiated scores, of its 64 queries against its 1024 keys, head by head. -/
def escore (Q : FVec F S8x256x128 .bf16) (o : Fin 3 → ℕ) (h : S8x256x128.Slices o S8x64x128) (K : Vec F S1x8x1024x128 .bf16) : FVec F S8x64x1024 .f32 :=
  exp (matmul dot_S8x64x128_S8x1024x128_S8x64x1024_2_2_1_1_0_0 none (extractStridedSlice S8x64x128 o Q h)
    (shapeCast S8x1024x128 K shapeCasts_S1x8x1024x128_S8x1024x128) (constant S8x64x1024 .f32 0x00000000#32))
/-- A phase's normalisers. -/
def esum (e : FVec F S8x64x1024 .f32) : FVec F S8x64 .f32 :=
  multiReduction .add [2] S8x64 e 0x00000000#32 reduces_S8x64x1024_S8x64 (.inl rfl) rfl
/-- A phase's weighted values, not yet normalised. -/
def emix (e : FVec F S8x64x1024 .f32) (V : Vec F S1x8x1024x128 .bf16) : FVec F S8x64x128 .f32 :=
  matmul dot_S8x64x1024_S8x1024x128_S8x64x128_2_1_1_2_0_0 none (truncf .bf16 e bitsLt_bf16_f32)
    (shapeCast S8x1024x128 V shapeCasts_S1x8x1024x128_S8x1024x128) (constant S8x64x128 .f32 0x00000000#32)

/-- One row's heads: the normalised mixes of the four phases, phase after phase. -/
def context (e0 e1 e2 e3 : FVec F S8x64x1024 .f32) (v0 v1 v2 v3 : Vec F S1x8x1024x128 .bf16) : FVec F S8x256x128 .bf16 :=
  truncf .bf16 (divf
    (concatenate S8x256x128 1 [⟨S8x64x128, emix e0 v0⟩, ⟨S8x64x128, emix e1 v1⟩, ⟨S8x64x128, emix e2 v2⟩, ⟨S8x64x128, emix e3 v3⟩] concatenates_S8x64x128_S8x64x128_S8x64x128_S8x64x128_S8x256x128_d1)
    (broadcastTo S8x256x128 (shapeCast S8x256x1 (concatenate S8x256 1 [⟨S8x64, esum e0⟩, ⟨S8x64, esum e1⟩, ⟨S8x64, esum e2⟩, ⟨S8x64, esum e3⟩] concatenates_S8x64_S8x64_S8x64_S8x64_S8x256_d1) shapeCasts_S8x256_S8x256x1)
      broadcasts_S8x256x1_S8x256x128)) bitsLt_bf16_f32

/-- One head's share of the output: its context times its 128 rows of the output weights. -/
def headOut (C : FVec F S8x256x128 .bf16) (o : Fin 3 → ℕ) (h : S8x256x128.Slices o S1x256x128) (w : Vec F S128x1024 .bf16) : FVec F S256x1024 .f32 :=
  matmul dot_S256x128_S128x1024_S256x1024_1_0_0_1_n_n none (shapeCast S256x128 (extractStridedSlice S1x256x128 o C h) shapeCasts_S1x256x128_S256x128)
    (shapeCast S128x1024 w shapeCasts_S128x1024_S128x1024) (constant S256x1024 .f32 0x00000000#32)

/-- The eight heads' shares, added in order. -/
def heads (C : FVec F S8x256x128 .bf16) (wo : Vec F S1024x1024 .bf16) : FVec F S256x1024 .f32 :=
  addf (addf (addf (addf (addf (addf (addf
    (headOut C ![0, 0, 0] slices_S8x256x128_o0_0_0_S1x256x128 (woCut ![0, 0] inb_S1024x1024_S128x1024_0_0 wo))
    (headOut C ![1, 0, 0] slices_S8x256x128_o1_0_0_S1x256x128 (woCut ![128, 0] inb_S1024x1024_S128x1024_128_0 wo)))
    (headOut C ![2, 0, 0] slices_S8x256x128_o2_0_0_S1x256x128 (woCut ![256, 0] inb_S1024x1024_S128x1024_256_0 wo)))
    (headOut C ![3, 0, 0] slices_S8x256x128_o3_0_0_S1x256x128 (woCut ![384, 0] inb_S1024x1024_S128x1024_384_0 wo)))
    (headOut C ![4, 0, 0] slices_S8x256x128_o4_0_0_S1x256x128 (woCut ![512, 0] inb_S1024x1024_S128x1024_512_0 wo)))
    (headOut C ![5, 0, 0] slices_S8x256x128_o5_0_0_S1x256x128 (woCut ![640, 0] inb_S1024x1024_S128x1024_640_0 wo)))
    (headOut C ![6, 0, 0] slices_S8x256x128_o6_0_0_S1x256x128 (woCut ![768, 0] inb_S1024x1024_S128x1024_768_0 wo)))
    (headOut C ![7, 0, 0] slices_S8x256x128_o7_0_0_S1x256x128 (woCut ![896, 0] inb_S1024x1024_S128x1024_896_0 wo))

/-- The partial output of one row: the row's block attended by the device's heads, projected by its output weights. -/
def slotF (P : Vec F S1x256x1024 .bf16) (wq : Vec F S1024x1024 .bf16) (kt vt : Vec F S4x8x1024x128 .bf16) (wo : Vec F S1024x1024 .bf16) : FVec F S1x256x1024 .f32 :=
  shapeCast S1x256x1024 (heads (context
      (escore (queries P wq) ![0, 0, 0] slices_S8x256x128_o0_0_0_S8x64x128 (kvCut ![0, 0, 0, 0] inb_S4x8x1024x128_S1x8x1024x128_0_0_0_0 kt))
      (escore (queries P wq) ![0, 64, 0] slices_S8x256x128_o0_64_0_S8x64x128 (kvCut ![1, 0, 0, 0] inb_S4x8x1024x128_S1x8x1024x128_1_0_0_0 kt))
      (escore (queries P wq) ![0, 128, 0] slices_S8x256x128_o0_128_0_S8x64x128 (kvCut ![2, 0, 0, 0] inb_S4x8x1024x128_S1x8x1024x128_2_0_0_0 kt))
      (escore (queries P wq) ![0, 192, 0] slices_S8x256x128_o0_192_0_S8x64x128 (kvCut ![3, 0, 0, 0] inb_S4x8x1024x128_S1x8x1024x128_3_0_0_0 kt))
      (kvCut ![0, 0, 0, 0] inb_S4x8x1024x128_S1x8x1024x128_0_0_0_0 vt) (kvCut ![1, 0, 0, 0] inb_S4x8x1024x128_S1x8x1024x128_1_0_0_0 vt)
      (kvCut ![2, 0, 0, 0] inb_S4x8x1024x128_S1x8x1024x128_2_0_0_0 vt) (kvCut ![3, 0, 0, 0] inb_S4x8x1024x128_S1x8x1024x128_3_0_0_0 vt)) wo) shapeCasts_S256x1024_S1x256x1024

/-! ## What travels -/

variable (A : Ins F)

/-- Device `d`'s block of `x`, as a row of the gather buffer. -/
def blk (d : Dev nD) : Vec F S1x256x1024 .bf16 := k0_pay1 (A.x d)
/-- Row `s` of device `c`'s partial outputs: the heads of `c` on the block of the device `s` places to its right. -/
def part (c : Dev nD) (s : ℕ) : FVec F S1x256x1024 .f32 := slotF (blk A (sh s c)) (A.wq c) (A.kt c) (A.vt c) (A.wo c)

/-- The partial sums that go round the ring: to the left by three hops (`l0`, `l1`, `l2`), to the right by four. -/
def l0 (c : Dev nD) : FVec F S1x256x1024 .bf16 := k0_pay79 (part A c 5)
def l1 (c : Dev nD) : FVec F S1x256x1024 .bf16 := k0_pay128 (part A c 6) (l0 A (nxt c))
def l2 (c : Dev nD) : FVec F S1x256x1024 .bf16 := k0_pay147 (part A c 7) (l1 A (nxt c))
def r0 (c : Dev nD) : FVec F S1x256x1024 .bf16 := k0_pay104 (part A c 4)
def r1 (c : Dev nD) : FVec F S1x256x1024 .bf16 := k0_pay129 (part A c 3) (r0 A (prv c))
def r2 (c : Dev nD) : FVec F S1x256x1024 .bf16 := k0_pay148 (part A c 2) (r1 A (prv c))
def r3 (c : Dev nD) : FVec F S1x256x1024 .bf16 := k0_pay169 (k0_pay168 (part A c 1)) (r2 A (prv c))
/-- The device's own result: its own heads on its own block, and the sums that arrive from both sides. -/
def outOf (c : Dev nD) : FVec F S256x1024 .f32 := k0_pay170 (part A c 0) (l2 A (nxt c)) (r3 A (prv c))

end Cert.KernelIdeal.Exchange

end
-- ==== Proof.Protocol.lean ====
/-
# The exchange: copies, cells, schedule, levels

Fourteen copies per device, in the order they are started: seven that gather the blocks of `x` round the ring in both
directions, and seven that pass partial sums back. A barrier before the first copy hands each neighbour the rows its
copies land in; two unit signals at the end close the exchange. Every cell has one round.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds of the exchange, beside the counters that local copies draw on. -/
def ER : Emb UB (MT nD τ sig Unit (Elt F) ℕ UU ℕ) :=
  (Emb.inl : Emb UB (UB × Counters)).trans embR
instance ER_landsIn : (ER : Emb UB (MT nD τ sig Unit (Elt F) ℕ UU ℕ)).LandsIn (upEmb : UEmb _ (MT nD τ sig Unit (Elt F) ℕ UU ℕ)) := by
  unfold ER; infer_instance

abbrev 𝒱₀ : Variants := Variants.none

/-! ## Rows of the scratch buffers -/

abbrev rect8 (k : ℕ) (h : ∀ a, (![k, 0, 0] : Fin 3 → ℕ) a + S1x256x1024.size a ≤ S8x256x1024.size a) : Rect S8x256x1024 :=
  Rect.unit (s := S8x256x1024) ![k, 0, 0] S1x256x1024.size h
abbrev rect4 (k : ℕ) (h : ∀ a, (![k, 0, 0] : Fin 3 → ℕ) a + S1x256x1024.size a ≤ S4x256x1024.size a) : Rect S4x256x1024 :=
  Rect.unit (s := S4x256x1024) ![k, 0, 0] S1x256x1024.size h
abbrev rect3 (k : ℕ) (h : ∀ a, (![k, 0, 0] : Fin 3 → ℕ) a + S1x256x1024.size a ≤ S3x256x1024.size a) : Rect S3x256x1024 :=
  Rect.unit (s := S3x256x1024) ![k, 0, 0] S1x256x1024.size h

/-- Row `k` of the gather buffer, of the buffers that send and receive partial sums to the right, and to the left. -/
abbrev xgM (k : ℕ) (h : ∀ a, (![k, 0, 0] : Fin 3 → ℕ) a + S1x256x1024.size a ≤ S8x256x1024.size a) : Memref sig .tc .vmem S256x1024 .bf16 :=
  ((Memref.whole cc0_scratch0).slice (rect8 k h) (fun _ => rfl)).squeeze S256x1024 squeezes_S1x256x1024_S256x1024
abbrev sbrM (k : ℕ) (h : ∀ a, (![k, 0, 0] : Fin 3 → ℕ) a + S1x256x1024.size a ≤ S4x256x1024.size a) : Memref sig .tc .vmem S256x1024 .bf16 :=
  ((Memref.whole cc0_scratch2).slice (rect4 k h) (fun _ => rfl)).squeeze S256x1024 squeezes_S1x256x1024_S256x1024
abbrev rbrM (k : ℕ) (h : ∀ a, (![k, 0, 0] : Fin 3 → ℕ) a + S1x256x1024.size a ≤ S4x256x1024.size a) : Memref sig .tc .vmem S256x1024 .bf16 :=
  ((Memref.whole cc0_scratch3).slice (rect4 k h) (fun _ => rfl)).squeeze S256x1024 squeezes_S1x256x1024_S256x1024
abbrev sblM (k : ℕ) (h : ∀ a, (![k, 0, 0] : Fin 3 → ℕ) a + S1x256x1024.size a ≤ S3x256x1024.size a) : Memref sig .tc .vmem S256x1024 .bf16 :=
  ((Memref.whole cc0_scratch4).slice (rect3 k h) (fun _ => rfl)).squeeze S256x1024 squeezes_S1x256x1024_S256x1024
abbrev rblM (k : ℕ) (h : ∀ a, (![k, 0, 0] : Fin 3 → ℕ) a + S1x256x1024.size a ≤ S3x256x1024.size a) : Memref sig .tc .vmem S256x1024 .bf16 :=
  ((Memref.whole cc0_scratch5).slice (rect3 k h) (fun _ => rfl)).squeeze S256x1024 squeezes_S1x256x1024_S256x1024

/-! ## The fourteen copies -/

/-- Whether a copy goes to the right neighbour. -/
def right : Fin 14 → Bool := ![true, false, true, false, true, false, true, false, true, false, true, false, true, true]
/-- The neighbour a copy goes to, and the one whose copy arrives. -/
def peer (c : Dev nD) (i : Fin 14) : Dev nD := if right i then nxt c else prv c
def source (c : Dev nD) (i : Fin 14) : Dev nD := if right i then prv c else nxt c
theorem source_peer (c : Dev nD) (i : Fin 14) : source (peer c i) i = c := by
  unfold source peer; split
  · exact prv_nxt c
  · exact nxt_prv c
theorem peer_source (c : Dev nD) (i : Fin 14) : peer (source c i) i = c := by
  unfold source peer; split
  · exact nxt_prv c
  · exact prv_nxt c

/-- A copy's source row and the row it lands in. -/
def srcM : Fin 14 → Memref sig .tc .vmem S256x1024 .bf16 :=
  ![xgM 0 (by decide), xgM 0 (by decide), xgM 7 (by decide), xgM 1 (by decide), xgM 6 (by decide), xgM 2 (by decide), xgM 5 (by decide),
    sblM 0 (by decide), sbrM 0 (by decide), sblM 1 (by decide), sbrM 1 (by decide), sblM 2 (by decide), sbrM 2 (by decide), sbrM 3 (by decide)]
def dstM : Fin 14 → Memref sig .tc .vmem S256x1024 .bf16 :=
  ![xgM 7 (by decide), xgM 1 (by decide), xgM 6 (by decide), xgM 2 (by decide), xgM 5 (by decide), xgM 3 (by decide), xgM 4 (by decide),
    rblM 0 (by decide), rbrM 0 (by decide), rblM 1 (by decide), rbrM 1 (by decide), rblM 2 (by decide), rbrM 2 (by decide), rbrM 3 (by decide)]
/-- The share of the source row a copy borrows. -/
def share : Fin 14 → PosShare TreeShare :=
  ![fullShare.left, fullShare.right.left, fullShare.left, fullShare.left, fullShare.left, fullShare.left, fullShare.left,
    fullShare, fullShare, fullShare, fullShare, fullShare, fullShare, fullShare]

/-- The semaphores of a copy's two ends. -/
def sS : Fin 14 → DmaSem sig := ![4, 12, 5, 13, 6, 14, 7, 26, 18, 27, 19, 28, 20, 21]
def rS : Fin 14 → DmaSem sig := ![8, 15, 9, 16, 10, 17, 11, 29, 22, 30, 23, 31, 24, 25]
/-- What a semaphore is for: the sending or the arriving end of a copy. -/
def role : DmaSem sig → Option (Fin 14 ⊕ Fin 14) :=
  ![none, none, none, none, some (.inl 0), some (.inl 2), some (.inl 4), some (.inl 6), some (.inr 0), some (.inr 2), some (.inr 4), some (.inr 6),
    some (.inl 1), some (.inl 3), some (.inl 5), some (.inr 1), some (.inr 3), some (.inr 5),
    some (.inl 8), some (.inl 10), some (.inl 12), some (.inl 13), some (.inr 8), some (.inr 10), some (.inr 12), some (.inr 13),
    some (.inl 7), some (.inl 9), some (.inl 11), some (.inr 7), some (.inr 9), some (.inr 11), none, none]
theorem role_s (i : Fin 14) : role (sS i) = some (.inl i) := by revert i; decide
theorem role_r (i : Fin 14) : role (rS i) = some (.inr i) := by revert i; decide

abbrev exitS : Sem sig := cc0_scoped0.sem

abbrev barCell (c : Dev nD) : GSem nD τ sig := ((c : Thread nD τ), .reg barrier0)
abbrev exitCell (c : Dev nD) : GSem nD τ sig := ((c : Thread nD τ), .reg exitS)
abbrev sCell (c : Dev nD) (i : Fin 14) : GSem nD τ sig := ((c : Thread nD τ), .dma (sS i))
abbrev rCell (c : Dev nD) (i : Fin 14) : GSem nD τ sig := ((c : Thread nD τ), .dma (rS i))

theorem exit_ne_bar : exitS ≠ barrier0 := by decide

abbrev N : ℕ := (xgM 0 (by decide)).view.dmaCredit
theorem N_pos : 0 < N := View.dmaCredit_pos _ (by decide)
theorem credit_src (i : Fin 14) : (srcM i).view.dmaCredit = N := by fin_cases i <;> rfl
theorem credit_dst (i : Fin 14) : (dstM i).view.dmaCredit = N := by fin_cases i <;> rfl

/-! ## What travels -/

variable (A : Ins F)

/-- What copy `i` of device `c` carries. -/
def Y (c : Dev nD) : Fin 14 → Vec F S1x256x1024 .bf16 :=
  ![blk A (sh 0 c), blk A (sh 0 c), blk A (sh 7 c), blk A (sh 1 c), blk A (sh 6 c), blk A (sh 2 c), blk A (sh 5 c),
    l0 A c, r0 A c, l1 A c, r1 A c, l2 A c, r2 A c, r3 A c]

/-- A row as the matrix its squeezed view shows. -/
abbrev flat (P : Vec F S1x256x1024 .bf16) : Vec F S256x1024 .bf16 := shapeCast S256x1024 P shapeCasts_S1x256x1024_S256x1024

def sendP (c : Dev nD) (i : Fin 14) : sProp 𝕄 := owns (c : Thread nD τ) (srcM i) (share i) (flat (Y A c i))
def recvP (c : Dev nD) (i : Fin 14) : sProp 𝕄 := owns (c : Thread nD τ) (dstM i) fullShare (flat (Y A (source c i) i))
/-- The row copy `i` lands in on device `d`, at whatever it holds, and that the arriving cell is open. -/
def landing (d : Dev nD) (i : Fin 14) : sProp 𝕄 := iprop((∃ X, owns (c := (d : Thread nD τ)) (dstM i) fullShare X) ∗ reached ER (rCell d i) 0)
/-- What the right neighbour hands over at the barrier, and the left one: the rows, and that its last cell is open. -/
def barT (c : Dev nD) : sProp 𝕄 :=
  iprop(reached ER (exitCell (nxt c)) 0 ∗ landing (F := F) (nxt c) 0 ∗ landing (F := F) (nxt c) 2 ∗ landing (F := F) (nxt c) 4 ∗ landing (F := F) (nxt c) 6
    ∗ landing (F := F) (nxt c) 8 ∗ landing (F := F) (nxt c) 10 ∗ landing (F := F) (nxt c) 12 ∗ landing (F := F) (nxt c) 13)
def barF (c : Dev nD) : sProp 𝕄 :=
  iprop(reached ER (exitCell (prv c)) 0 ∗ landing (F := F) (prv c) 1 ∗ landing (F := F) (prv c) 3 ∗ landing (F := F) (prv c) 5
    ∗ landing (F := F) (prv c) 7 ∗ landing (F := F) (prv c) 9 ∗ landing (F := F) (prv c) 11)

/-! ## The schedule -/

def Rd : Rounds.Schedule (GSem nD τ sig) Bool 𝕄 where
  duties g r := if r = 0 ∧ g.1.2 = .tc then
      (match g.2 with
        | .reg s => if s = barrier0 ∨ s = exitS then Finset.univ else ∅
        | .dma q => if (role q).isSome then {false} else ∅)
    else ∅
  unitless _ := False
  amount g _ _ := match g.2 with | .reg _ => 1 | .dma _ => N
  payload g _ d := match g.2 with
    | .reg s => if s = barrier0 then (if d then barT g.1.1 else barF g.1.1) else iprop(emp)
    | .dma q => match role q with
      | some (.inl i) => sendP A g.1.1 i
      | some (.inr i) => recvP A g.1.1 i
      | none => iprop(emp)
  amount_pos g _ _ _ := by
    rcases g with ⟨t, s | q⟩
    · exact Nat.one_pos
    · exact N_pos

instance Rd_payload_storable (g : GSem nD τ sig) (r : ℕ) (d : Bool) : BI.Storable (upEmb : UEmb _ 𝕄) ((Rd A).payload g r d) := by
  rcases g with ⟨t, s | q⟩
  · show BI.Storable upEmb (if s = barrier0 then (if d then barT t.1 else barF t.1) else iprop(emp))
    unfold barT barF landing
    (repeat' split) <;> infer_instance
  · show BI.Storable upEmb (match role q with
      | some (.inl i) => sendP A t.1 i
      | some (.inr i) => recvP A t.1 i
      | none => iprop(emp))
    unfold sendP recvP
    (repeat' split) <;> infer_instance

section Sched
variable (c : Dev nD)

theorem duties_reg (s : Sem sig) : (Rd A).duties ((c : Thread nD τ), .reg s) 0 = if s = barrier0 ∨ s = exitS then Finset.univ else ∅ := by
  dsimp only [Rd]; exact if_pos (And.intro rfl rfl)
theorem duties_bar : (Rd A).duties (barCell c) 0 = Finset.univ := by
  rw [duties_reg]; exact if_pos (Or.inl rfl)
theorem duties_exit : (Rd A).duties (exitCell c) 0 = Finset.univ := by
  rw [duties_reg]; exact if_pos (Or.inr rfl)
theorem duties_dma (q : DmaSem sig) (hq : (role q).isSome) : (Rd A).duties ((c : Thread nD τ), .dma q) 0 = {false} := by
  have h : (Rd A).duties ((c : Thread nD τ), .dma q) 0 = if (role q).isSome then {false} else ∅ := by
    dsimp only [Rd]; exact if_pos (And.intro rfl rfl)
  rw [h, if_pos hq]
theorem duties_later (g : GSem nD τ sig) : ∀ r, 1 ≤ r → (Rd A).duties g r = ∅ :=
  fun r hr => by dsimp only [Rd]; rw [if_neg fun h => by omega]
theorem duties_s (i : Fin 14) : (Rd A).duties (sCell c i) 0 = {false} := duties_dma A c _ (by rw [role_s]; rfl)
theorem duties_r (i : Fin 14) : (Rd A).duties (rCell c i) 0 = {false} := duties_dma A c _ (by rw [role_r]; rfl)

theorem expect_bar : (Rd A).expect (barCell c) 0 = 2 := by
  unfold Schedule.expect Schedule.amountOf
  rw [duties_bar]; rfl
theorem expect_exit : (Rd A).expect (exitCell c) 0 = 2 := by
  unfold Schedule.expect Schedule.amountOf
  rw [duties_exit]; rfl
theorem expect_dma (q : DmaSem sig) (hq : (role q).isSome) : (Rd A).expect ((c : Thread nD τ), .dma q) 0 = N := by
  unfold Schedule.expect Schedule.amountOf; rw [duties_dma A c q hq, Finset.sum_singleton]; rfl

theorem payload_s (i : Fin 14) (d : Bool) : (Rd A).payload (sCell c i) 0 d = sendP A c i := by
  show (match role (sS i) with | some (.inl i) => sendP A c i | some (.inr i) => recvP A c i | none => iprop(emp)) = _
  rw [role_s]
theorem payload_r (i : Fin 14) (d : Bool) : (Rd A).payload (rCell c i) 0 d = recvP A c i := by
  show (match role (rS i) with | some (.inl i) => sendP A c i | some (.inr i) => recvP A c i | none => iprop(emp)) = _
  rw [role_r]
theorem payload_reg (s : Sem sig) (d : Bool) :
    (Rd A).payload ((c : Thread nD τ), .reg s) 0 d = if s = barrier0 then (if d then barT c else barF c) else iprop(emp) := rfl
theorem payload_bar_true : (Rd A).payload (barCell c) 0 true = barT c := by
  rw [payload_reg, if_pos rfl, if_pos rfl]
theorem payload_bar_false : (Rd A).payload (barCell c) 0 false = barF c := by
  rw [payload_reg, if_pos rfl]; exact if_neg Bool.false_ne_true
theorem payload_exit (d : Bool) : (Rd A).payload (exitCell c) 0 d = iprop(emp) := by
  rw [payload_reg, if_neg exit_ne_bar]

theorem rest_bar : bigSep ((Rd A).duties (barCell c) 0 \ ∅) (fun d => (Rd A).payload (barCell c) 0 d) = iprop(barF c ∗ barT c) := by
  rw [Finset.sdiff_empty, duties_bar, bigSep_univ_eq_bigSepL [false, true] (by decide) (by decide), bigSepL_cons_cons, bigSepL_singleton,
    payload_bar_true, payload_bar_false]
  rfl
theorem rest_dma (q : DmaSem sig) (hq : (role q).isSome) :
    bigSep ((Rd A).duties ((c : Thread nD τ), .dma q) 0 \ ∅) (fun d => (Rd A).payload ((c : Thread nD τ), .dma q) 0 d)
      = (Rd A).payload ((c : Thread nD τ), .dma q) 0 false := by
  rw [Finset.sdiff_empty, duties_dma A c q hq, bigSep_singleton]

end Sched

/-! ## What a device owes, and the levels -/

/-- Copy `i`'s credit at the arriving cell. -/
def due (c : Dev nD) (i : Fin 14) : CellTallies nD τ sig Unit := tallyAt (rCell (peer c i) i) () N
/-- The last unit at the right neighbour, and both last units. -/
def Oexit₁ (c : Dev nD) : CellTallies nD τ sig Unit := tallyAt (exitCell (nxt c)) () 1
def Oexit (c : Dev nD) : CellTallies nD τ sig Unit := Oexit₁ c + tallyAt (exitCell (prv c)) () 1
/-- What is owed before copy `k`: the copies from `k` on, and the last units. -/
def Ox (c : Dev nD) (k : ℕ) : CellTallies nD τ sig Unit := Oexit c + ∑ i ∈ Finset.univ.filter (fun i : Fin 14 => k ≤ i.val), due c i
/-- At the start, also a unit at the right neighbour's barrier, and at the left one's. -/
def O₁ (c : Dev nD) : CellTallies nD τ sig Unit := Ox c 0 + tallyAt (barCell (nxt c)) () 1
def O₀ (c : Dev nD) : CellTallies nD τ sig Unit := O₁ c + tallyAt (barCell (prv c)) () 1

theorem Ox_step (c : Dev nD) (i : Fin 14) : Ox c i.val = Ox c (i.val + 1) + due c i := by
  unfold Ox
  rw [add_assoc]
  refine congrArg (Oexit c + ·) ?_
  have h : (Finset.univ.filter fun j : Fin 14 => i.val ≤ j.val) = insert i (Finset.univ.filter fun j : Fin 14 => i.val + 1 ≤ j.val) := by
    ext j; simp only [Finset.mem_filter, Finset.mem_univ, true_and, Finset.mem_insert, Fin.ext_iff]; omega
  rw [h, Finset.sum_insert (by simp), add_comm]
theorem Ox_end (c : Dev nD) : Ox c 14 = Oexit c := by
  unfold Ox
  rw [Finset.filter_false_of_mem (fun i _ => by have := i.isLt; omega), Finset.sum_empty, add_zero]

def L (g : GSem nD τ sig) : Finset Unit := if g.1.2 = .tc then {()} else ∅
def lv (g : GSem nD τ sig) (_ : Unit) : ℕ := match g.2 with
  | .reg s => if s = barrier0 then 1 else 16
  | .dma q => match role q with | some (.inr i) => i.val + 2 | _ => 0
theorem lv_r (c : Dev nD) (i : Fin 14) (u : Unit) : lv (rCell c i) u = i.val + 2 := by
  show (match role (rS i) with | some (.inr i) => i.val + 2 | _ => 0) = _; rw [role_r]
theorem lv_s (c : Dev nD) (i : Fin 14) (u : Unit) : lv (sCell c i) u = 0 := by
  show (match role (sS i) with | some (.inr i) => i.val + 2 | _ => 0) = _; rw [role_s]
theorem lv_bar (c : Dev nD) (u : Unit) : lv (barCell c) u = 1 := by dsimp only [lv]; exact if_pos rfl
theorem lv_exit (c : Dev nD) (u : Unit) : lv (exitCell c) u = 16 := by dsimp only [lv]; exact if_neg exit_ne_bar
theorem L_of_ne (g : GSem nD τ sig) (h : g.1.2 ≠ .tc) : L g = ∅ := if_neg h
theorem L_tc (c : Dev nD) (sm : SemLoc sig) : L ((c : Thread nD τ), sm) = {()} := if_pos rfl

theorem sum_pos {S : Finset (Fin 14)} {f : Fin 14 → CellTallies nD τ sig Unit} {g : GSem nD τ sig} {u : Unit} (h : 0 < (∑ i ∈ S, f i) g u) : ∃ i ∈ S, 0 < f i g u := by
  by_contra hn
  push Not at hn
  rw [Finset.sum_apply, Finsupp.finset_sum_apply, Finset.sum_eq_zero (fun i hi => Nat.le_zero.mp (hn i hi))] at h
  exact Nat.lt_irrefl 0 h
theorem tallyAt_pos {g g' : GSem nD τ sig} {u : Unit} {n : ℕ} (h : 0 < tallyAt g () n g' u) : g' = g := by
  rw [tallyAt_apply] at h
  by_contra hn
  rw [if_neg (fun h' => hn h'.1)] at h; exact Nat.lt_irrefl 0 h
theorem add_pos' {a b : CellTallies nD τ sig Unit} {g : GSem nD τ sig} {u : Unit} (h : 0 < (a + b) g u) : 0 < a g u ∨ 0 < b g u := by
  rw [Pi.add_apply, Finsupp.add_apply] at h; omega
theorem Ox_pos {c : Dev nD} {k : ℕ} {g : GSem nD τ sig} {u : Unit} (h : 0 < Ox c k g u) :
    (∃ i : Fin 14, k ≤ i.val ∧ g = rCell (peer c i) i) ∨ ∃ d, g = exitCell d := by
  rcases add_pos' h with h | h
  · rcases add_pos' h with h | h
    · exact .inr ⟨_, tallyAt_pos h⟩
    · exact .inr ⟨_, tallyAt_pos h⟩
  · obtain ⟨i, hi, h⟩ := sum_pos h
    exact .inl ⟨i, (Finset.mem_filter.mp hi).2, tallyAt_pos h⟩

/-- While the copies from `k` on are owed, anything below their levels may be waited for. -/
theorem mayWait_x (c : Dev nD) (k : ℕ) (hk : k ≤ 14) (sm : SemLoc sig) (hsm : lv ((c : Thread nD τ), sm) () < k + 2) :
    (levAts L lv : sProp 𝕄) ⊢ MayWait (c : Thread nD τ) sm () (Ox c k) :=
  MayOwe.of_cut (L := L) (lev := lv) (k + 1) (fun p hp => by rw [Finset.mem_singleton.mp hp, L_tc]; exact Finset.mem_singleton_self _)
    (fun g u hg => by rcases Ox_pos hg with ⟨i, -, rfl⟩ | ⟨d, rfl⟩ <;> exact Finset.mem_singleton_self _)
    (fun p hp => by rw [Finset.mem_singleton.mp hp]; exact Nat.le_of_lt_succ hsm)
    (fun g u hg => by
      rcases Ox_pos hg with ⟨i, hi, rfl⟩ | ⟨d, rfl⟩
      · rw [lv_r]; omega
      · rw [lv_exit]; omega)

theorem O₀_pos {c : Dev nD} {g : GSem nD τ sig} {u : Unit} (h : 0 < O₀ c g u) :
    ((∃ i : Fin 14, 0 ≤ i.val ∧ g = rCell (peer c i) i) ∨ ∃ d, g = exitCell d) ∨ ∃ d, g = barCell d := by
  rcases add_pos' h with h | h
  · rcases add_pos' h with h | h
    · exact .inl (Ox_pos h)
    · exact .inr ⟨_, tallyAt_pos h⟩
  · exact .inr ⟨_, tallyAt_pos h⟩

/-- A cell of level zero may be waited for at the start. -/
theorem mayWait_start (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with (⟨i, -, rfl⟩ | ⟨d, rfl⟩) | ⟨d, rfl⟩ <;> exact Finset.mem_singleton_self _)
      (fun p hp => by rw [Finset.mem_singleton.mp hp]; exact hsm.le)
      (fun g u hg => by
        rcases O₀_pos hg with (⟨i, -, rfl⟩ | ⟨d, rfl⟩) | ⟨d, rfl⟩
        · rw [lv_r]; omega
        · rw [lv_exit]; omega
        · rw [lv_bar]; omega)
  · rw [MayWait_zero]; iintro -; iempintro

end Cert.KernelIdeal.Exchange

end
-- ==== Proof.Steps.lean ====
/-
# The exchange's operations, one rule each

A row of a scratch buffer is carried by a copy as its squeezed view, and is read and written by the body through the
buffer's own rectangle: `row_open` and `row_close` pass from one to the other. The remaining rules run one copy, one
wait or one signal of the exchange at a symbolic device.
-/
module

public import proofs.«01_k».proof.Proof.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rows, by their squeezed views and by their rectangles -/

/-- The elements of `M` under the rectangle `R`, held at contents `f`. -/
abbrev held {s : Shape} {e : EltTy} (c : Dev nD) (M : Memref sig .tc .vmem s e) (R : Rect s) (q : PosShare TreeShare)
    (f : Buf (Elt F) (M.view.loc (c : Thread nD τ))) : sProp 𝕄 :=
  M.view.loc (c : Thread nD τ) ↦[M.view.setOn R.set]{q} f

/-- The same, reading `P` there. -/
def hold {s : Shape} {e : EltTy} (c : Dev nD) (M : Memref sig .tc .vmem s e) (R : Rect s) (q : PosShare TreeShare) (P : R.shape.Idx → Elt F e) : sProp 𝕄 :=
  iprop(∃ f : Buf (Elt F) (M.view.loc (c : Thread nD τ)), ⌜M.view.readAt (Elt F) R.toLoadRect f = P⌝ ∗ held c M R q f)

section Rows
variable {s s' : Shape} {e : EltTy} (c : Dev nD) (M : Memref sig .tc .vmem s e) (R : Rect s) (hr : ∀ a, R.stride a = 1) (hq : R.shape.Squeezes s')
  (hc : R.shape.ShapeCasts s') (q : PosShare TreeShare) (P : R.shape.Idx → Elt F e)

theorem row_set : ((M.slice R hr).squeeze s' hq).view.set = M.view.setOn R.set := by
  show ((M.view.slice R).reshape s' _).set = _
  rw [View.set_reshape, View.set_slice]; rfl

theorem shapeCast_inj {X Y : R.shape.Idx → Elt F e} (h : shapeCast s' X hc = shapeCast s' Y hc) : X = Y := by
  funext j
  have := congrFun h ((Shape.reshapeEquiv hc).symm j)
  simpa [shapeCast] using this

theorem row_open : owns (c : Thread nD τ) ((M.slice R hr).squeeze s' hq) q (shapeCast s' P hc) ⊢ (hold c M R q P : sProp 𝕄) := by
  unfold owns hold held
  iintro ⟨%f, %hf, H⟩
  iexists f
  isplitr
  · ipureintro
    replace hf : shapeCast s' (M.view.readAt (Elt F) R.toLoadRect f) hc = shapeCast s' P hc := hf
    exact shapeCast_inj R hc hf
  · rw [row_set M R hr hq]; iexact H

theorem row_close : (hold c M R q P : sProp 𝕄) ⊢ owns (c : Thread nD τ) ((M.slice R hr).squeeze s' hq) q (shapeCast s' P hc) := by
  unfold owns hold held
  iintro ⟨%f, %hf, H⟩
  iexists f
  isplitr
  · ipureintro
    show shapeCast s' (M.view.readAt (Elt F) R.toLoadRect f) hc = _
    rw [hf]
  · rw [row_set M R hr hq]; iexact H

end Rows

/-! ## The evidence -/

variable (A : Ins F)

/-- A device's cells: the barrier and the last one, the copies' sending ends, the copies' arriving ends. -/
abbrev Key : Type := Bool ⊕ (Fin 14 ⊕ Fin 14)
def semOf : Key → SemLoc sig
  | .inl false => .reg barrier0
  | .inl true => .reg exitS
  | .inr (.inl i) => .dma (sS i)
  | .inr (.inr i) => .dma (rS i)
abbrev kcell (x : Dev nD × Key) : GSem nD τ sig := ((x.1 : Thread nD τ), semOf x.2)

/-- Every cell of every device, under the names the launch gave them. -/
def records (K : Dev nD × Key → ℕ) : sProp 𝕄 := bigSep Finset.univ fun x => cellInv ER (Rd A) (K x) (kcell x)
instance records_persistent (K : Dev nD × Key → ℕ) : BI.Persistent (records A K) := by unfold records; infer_instance

variable (K : Dev nD × Key → ℕ)

theorem records_at (x : Dev nD × Key) : records A K ⊢ cellInv ER (Rd A) (K x) (kcell x) := by
  unfold records; exact bigSep_elim (Finset.mem_univ x)

/-- What copy `i` takes to start on device `c`. -/
def gear (c : Dev nD) (i : Fin 14) : sProp 𝕄 :=
  iprop(dutyTok ER (sCell c i) 0 false ∗ dutyTok ER (rCell (peer c i) i) 0 false ∗ reached ER (sCell c i) 0
    ∗ atPos ER (sCell c i) 0 ∅ 0 ∗ atPos ER (rCell c i) 0 ∅ 0 ∗ cred (tallyAt (rCell c i) () N))
/-- What is left once it has started, -/
def flying (c : Dev nD) (i : Fin 14) : sProp 𝕄 :=
  iprop(cred (tallyAt (sCell c i) () N) ∗ atPos ER (sCell c i) 0 ∅ 0 ∗ atPos ER (rCell c i) 0 ∅ 0 ∗ cred (tallyAt (rCell c i) () N))
/-- once the neighbour's copy `i` has arrived, -/
def arrived (c : Dev nD) (i : Fin 14) : sProp 𝕄 :=
  iprop(cred (tallyAt (sCell c i) () N) ∗ atPos ER (sCell c i) 0 ∅ 0 ∗ atPos ER (rCell c i) 1 ∅ 0)
/-- and once its own source is back. -/
def closed (c : Dev nD) (i : Fin 14) : sProp 𝕄 :=
  iprop(atPos ER (sCell c i) 1 ∅ 0 ∗ atPos ER (rCell c i) 1 ∅ 0)

/-- What a device owes, whatever it has waited for. -/
def owing (c : Dev nD) (O : CellTallies nD τ sig Unit) : sProp 𝕄 := iprop(∃ W, owes (c : Thread nD τ) O W)

theorem wp_copy (c : Dev nD) (i : Fin 14) (k₀ : ℕ) (hk₀ : k₀ = i.val) {n : Dev nD} (hn : n = peer c i) {src dst : Memref sig .tc .vmem S256x1024 .bf16}
    (hs : src = srcM i) (hd : dst = dstM i) {q q' : DmaSem sig} (hq : q = sS i) (hq' : q' = rS i)
    {hsc : (show Memref sig (Dev.tc n : Thread nD τ).2.kind .vmem S256x1024 .bf16 from dst).view.ref.isScScratch = false}
    {hsrc : src.view.WordExact} {hdst : dst.view.WordExact}
    {hsem : DmaTarget.Typed .vmem (.dma q') (.remote (Dev.tc n : Thread nD τ) dst (.dma q) hsc)}
    {α : Type} {Q : α → sProp 𝕄} {k : PUnit → Prog (TpuEff nD τ sig (Elt F) Λ₀ .tc) α} :
    iprop(records A K ∗ owing c (Ox c k₀) ∗ gear c i ∗ landing (peer c i) i ∗ sendP A c i)
      ⊢ iprop(((owing c (Ox c (k₀ + 1)) ∗ flying c i) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) k) Q) := by
  subst hk₀ hn hs hd hq hq'
  unfold owing gear landing sendP owns
  iintro ⟨#HR, ⟨%W, HO⟩, ⟨Ht, Ht', #Hr, Hat, Hat', Hc⟩, ⟨⟨%X, %fd, %hfd, Hd⟩, #Hr'⟩, %fs, %hfs, Hs⟩ Hk
  iapply (Rounds.wp_send_pointsTo 𝒱₀ ER (Rd A) (c : Thread nD τ) none (κ₁ := K (c, .inr (.inl i))) (κ₂ := K (peer c i, .inr (.inr i)))
    (r₁ := 0) (r₂ := 0) (d₁ := false) (d₂ := false) (fd := fd) (fs := fs)
    (by rw [duties_s]; exact Finset.mem_singleton_self _) (by rw [duties_r]; exact Finset.mem_singleton_self _)
    () () N (show (dstM i).view.amount (.dma (rS i)) = N from credit_dst i) rfl rfl (Ox c (i.val + 1)) (Ox_step c i) (W := W)
    (by
      rw [payload_s]; unfold sendP owns
      iintro H; iexists fs; isplitr
      · ipureintro; exact hfs
      iexact H)
    (by
      rw [payload_r]; unfold recvP owns
      iintro H; iexists _; isplitr
      rotate_left; iexact H
      ipureintro; rw [View.read_write_univ, hfs, source_peer])) $$ [HO Ht Ht' Hd Hs]
  · isplitr; · iapply (records_at A K (c, .inr (.inl i))); iexact HR
    isplitr; · iapply (records_at A K (peer c i, .inr (.inr i))); iexact HR
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hcs, HO⟩
  iapply Hk
  isplitl [HO]; · iexists W; iexact HO
  unfold flying
  isplitl [Hcs]; · iexact Hcs
  isplitl [Hat]; · iexact Hat
  isplitl [Hat']; · iexact Hat'
  iexact Hc

/-- A wait on a copy's end, owing `O`, which it may. -/
theorem wp_end (c : Dev nD) (q : DmaSem sig) (hq : (role q).isSome) (x : Key) (hx : semOf x = .dma q) (O : CellTallies nD τ sig Unit) (hm : (levAts L lv : sProp 𝕄) ⊢ MayWait (c : Thread nD τ) (.dma q) () O)
    {src dst : Memref sig .tc .vmem S256x1024 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records A K ∗ levAts L lv ∗ owing c O ∗ cred (tallyAt ((c : Thread nD τ), SemLoc.dma q) () N) ∗ atPos ER ((c : Thread nD τ), .dma q) 0 ∅ 0)
      ⊢ iprop(((owing c O ∗ atPos ER ((c : Thread nD τ), .dma q) 1 ∅ 0 ∗ (Rd A).payload ((c : Thread nD τ), .dma q) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold owing
  iintro ⟨#HR, #HL, ⟨%W, HO⟩, Hc, Hat⟩ Hk
  iapply (Rounds.wp_wait_rest_token 𝒱₀ ER (Rd A) (c : Thread nD τ) none (κ := K (c, x))
      (wpE_waitDma2_eq 𝒱₀ (c : Thread nD τ) none Set.univ) (Set.mem_univ _) () (O := O) (W := W) (R := 0) (m := 0) (T := ∅)
      (by rw [Nat.zero_add, hN, expect_dma A c q hq])) $$ [Hc HO Hat]
  · isplitr
    · ihave H := (records_at A K (c, x)) $$ HR
      dsimp only [kcell]; rw [hx]; iexact H
    isplitl [Hc]; · iexact Hc
    isplitl [HO]; · iexact HO
    isplitr; · iapply hm; iexact HL
    iexact Hat
  iintro ⟨HO, Hat, -, Hpay⟩
  iapply Hk
  isplitl [HO]; · iexists _; iexact HO
  isplitl [Hat]; · iexact Hat
  iapply (Entails.of_eq (rest_dma A c q hq)); iexact Hpay

theorem wp_arrive (c : Dev nD) (i : Fin 14) (k₀ : ℕ) (hk₀ : i.val < k₀ ∧ k₀ ≤ 14) {q : DmaSem sig} (hq : q = rS i) {src dst : Memref sig .tc .vmem S256x1024 .bf16}
    {hsrc : src.view.WordExact} {hdst : dst.view.WordExact} (hN : dst.view.dmaCredit = N)
    {α : Type} {Q : α → sProp 𝕄} {k : PUnit → Prog (TpuEff nD τ sig (Elt F) Λ₀ .tc) α} :
    iprop(records A K ∗ levAts L lv ∗ owing c (Ox c k₀) ∗ flying c i)
      ⊢ iprop(((owing c (Ox c k₀) ∗ arrived c i ∗ recvP A c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold flying
  iintro ⟨#HR, #HL, HO, Hcs, Hat, Hat', Hc⟩ Hk
  iapply (wp_end A K c (rS i) (by rw [role_r]; rfl) (.inr (.inr i)) rfl (Ox c k₀)
    (mayWait_x c k₀ hk₀.2 (.dma (rS i)) (by rw [lv_r]; omega)) hN) $$ [HO Hat' Hc]
  · isplitr; · iexact HR
    isplitr; · iexact HL
    isplitl [HO]; · iexact HO
    isplitl [Hc]; · iexact Hc
    iexact Hat'
  iintro ⟨HO, Hat', Hp⟩
  iapply Hk
  isplitl [HO]; · iexact HO
  unfold arrived
  isplitr [Hp]
  · isplitl [Hcs]; · iexact Hcs
    isplitl [Hat]; · iexact Hat
    iexact Hat'
  · rw [← payload_r A c i false]; iexact Hp

theorem wp_back (c : Dev nD) (i : Fin 14) {q : DmaSem sig} (hq : q = sS i) {src dst : Memref sig .tc .vmem S256x1024 .bf16}
    {hsrc : src.view.WordExact} {hdst : dst.view.WordExact} (hN : dst.view.dmaCredit = N)
    {α : Type} {Q : α → sProp 𝕄} {k : PUnit → Prog (TpuEff nD τ sig (Elt F) Λ₀ .tc) α} :
    iprop(records A K ∗ levAts L lv ∗ owing c (Ox c 14) ∗ arrived c i)
      ⊢ iprop(((owing c (Ox c 14) ∗ closed c i ∗ sendP A c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold arrived
  iintro ⟨#HR, #HL, HO, Hcs, Hat, Hat'⟩ Hk
  iapply (wp_end A K c (sS i) (by rw [role_s]; rfl) (.inr (.inl i)) rfl (Ox c 14)
    (mayWait_x c 14 (le_refl _) (.dma (sS i)) (by rw [lv_s]; omega)) hN) $$ [HO Hat Hcs]
  · isplitr; · iexact HR
    isplitr; · iexact HL
    isplitl [HO]; · iexact HO
    isplitl [Hcs]; · iexact Hcs
    iexact Hat
  iintro ⟨HO, Hat, Hp⟩
  iapply Hk
  isplitl [HO]; · iexact HO
  unfold closed
  isplitr [Hp]
  · isplitl [Hat]; · iexact Hat
    iexact Hat'
  · rw [← payload_s A c i false]; iexact Hp

/-- A unit signal of the exchange, to cell `x` of device `d`. -/
theorem wp_unit (c d : Dev nD) {n : Dev nD} (hn : n = d) {sm : Sem sig} (b b' : Bool) (hx : semOf (.inl b') = .reg sm) (O O' : CellTallies nD τ sig Unit)
    (hO : O' = O + tallyAt ((d : Thread nD τ), SemLoc.reg sm) () 1) {k₁ : ℕ} (hk₁ : k₁ = 1)
    {α : Type} {Q : α → sProp 𝕄} {k : PUnit → Prog (TpuEff nD τ sig (Elt F) Λ₀ .tc) α} :
    iprop(records A K ∗ owing c O' ∗ dutyTok ER ((d : Thread nD τ), .reg sm) 0 b ∗ reached ER ((d : Thread nD τ), .reg sm) 0
        ∗ (Rd A).payload ((d : Thread nD τ), .reg sm) 0 b)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm k₁) k) Q) := by
  subst hn hk₁
  unfold owing
  have hd : b ∈ (Rd A).duties ((n : Thread nD τ), .reg sm) 0 := by
    rw [duties_reg, if_pos]
    · exact Finset.mem_univ _
    · cases b'
      · exact .inl (SemLoc.reg.inj hx).symm
      · exact .inr (SemLoc.reg.inj hx).symm
  iintro ⟨#HR, ⟨%W, HO⟩, Ht, #Hr, Hp⟩ Hk
  iapply (Rounds.wp_signal 𝒱₀ ER (Rd A) (c : Thread nD τ) none (dst := (n : Thread nD τ)) (κ := K (n, .inl b')) (d := b) hd rfl () O hO) $$ [HO Ht Hp]
  · isplitr
    · ihave H := (records_at A K (n, .inl b')) $$ HR
      dsimp only [kcell]; rw [hx]; iexact H
    isplitl [HO]; · iexact HO
    isplitl [Ht]; · iexact Ht
    isplitl [Hp]; · iexact Hp
    iexact Hr
  iintro HO
  iapply Hk
  iexists W; iexact HO

/-- The wait for both neighbours' units at the barrier: their landing rows come with it. -/
theorem wp_barrier (c : Dev nD) {k₁ : ℕ} (hk₁ : k₁ = 2) {α : Type} {Q : α → sProp 𝕄} {k : PUnit → Prog (TpuEff nD τ sig (Elt F) Λ₀ .tc) α} :
    iprop(records A K ∗ levAts L lv ∗ owing c (Ox c 0) ∗ cred (tallyAt (barCell c) () 2) ∗ atPos ER (barCell c) 0 ∅ 0)
      ⊢ iprop(((owing c (Ox c 0) ∗ atPos ER (barCell c) 1 ∅ 0 ∗ barF c ∗ barT c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barrier0 k₁) k) Q) := by
  subst hk₁
  unfold owing
  iintro ⟨#HR, #HL, ⟨%W, HO⟩, Hc, Hat⟩ Hk
  iapply (Rounds.wp_wait_rest_token 𝒱₀ ER (Rd A) (c : Thread nD τ) none (κ := K (c, .inl false))
      (wpE_semWait_eq 𝒱₀ (c : Thread nD τ) none Set.univ) (Set.mem_univ _) () (O := Ox c 0) (W := W) (R := 0) (m := 0) (T := ∅)
      (by rw [expect_bar])) $$ [Hc HO Hat]
  · isplitr; · iapply (records_at A K (c, .inl false)); iexact HR
    isplitl [Hc]; · iexact Hc
    isplitl [HO]; · iexact HO
    isplitr; · iapply (mayWait_x c 0 (by omega) (.reg barrier0) (by rw [lv_bar]; omega)); iexact HL
    iexact Hat
  iintro ⟨HO, Hat, -, Hp⟩
  iapply Hk
  isplitl [HO]; · iexists _; iexact HO
  isplitl [Hat]; · iexact Hat
  iapply (Entails.of_eq (rest_bar A c)); iexact Hp

/-- The last wait, owing nothing. -/
theorem wp_exit (c : Dev nD) {k₁ : ℕ} (hk₁ : k₁ = 2) {α : Type} {Q : α → sProp 𝕄} {k : PUnit → Prog (TpuEff nD τ sig (Elt F) Λ₀ .tc) α} :
    iprop(records A K ∗ owing c 0 ∗ cred (tallyAt (exitCell c) () 2) ∗ atPos ER (exitCell c) 0 ∅ 0)
      ⊢ iprop(((owing c 0 ∗ atPos ER (exitCell c) 1 ∅ 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait exitS k₁) k) Q) := by
  subst hk₁
  unfold owing
  iintro ⟨#HR, ⟨%W, HO⟩, Hc, Hat⟩ Hk
  iapply (Rounds.wp_wait_rest_token 𝒱₀ ER (Rd A) (c : Thread nD τ) none (κ := K (c, .inl true))
      (wpE_semWait_eq 𝒱₀ (c : Thread nD τ) none Set.univ) (Set.mem_univ _) () (O := 0) (W := W) (R := 0) (m := 0) (T := ∅)
      (by rw [expect_exit])) $$ [Hc HO Hat]
  · isplitr; · iapply (records_at A K (c, .inl true)); iexact HR
    isplitl [Hc]; · iexact Hc
    isplitl [HO]; · iexact HO
    isplitr; · rw [MayWait_zero]; iempintro
    iexact Hat
  iintro ⟨HO, Hat, -, Hp⟩
  iapply Hk
  isplitl [HO]; · iexists _; iexact HO
  iexact Hat

end Cert.KernelIdeal.Exchange

end
-- ==== Proof.Body.lean ====
/-
# The body, run once at a symbolic device
-/
module

public import proofs.«01_k».proof.Proof.Steps
public import Idealize.ShloMosaic.Lib.Tactic
public import Idealize.ShloMosaic.Lib.VecWindow

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (A : Ins F) (K : Dev nD × Key → ℕ)

/-- A buffer of device `c`, whole at contents `f`. -/
abbrev pt (c : Dev nD) (b : Ref sig .tc) (f : Buf (Elt F) ((Memref.whole b).view.loc (c : Thread nD τ))) : sProp 𝕄 :=
  (Memref.whole b).view.loc (c : Thread nD τ) ↦{fullShare} f
/-- Rows of the scratch buffers, at whatever they hold. -/
abbrev xgA (c : Dev nD) (k : ℕ) (h : ∀ a, (![k, 0, 0] : Fin 3 → ℕ) a + S1x256x1024.size a ≤ S8x256x1024.size a) : sProp 𝕄 :=
  iprop(∃ f, held (F := F) c (Memref.whole cc0_scratch0) (rect8 k h) fullShare f)
abbrev partA (c : Dev nD) (k : ℕ) (h : ∀ a, (![k, 0, 0] : Fin 3 → ℕ) a + S1x256x1024.size a ≤ S8x256x1024.size a) : sProp 𝕄 :=
  iprop(∃ f, held (F := F) c (Memref.whole cc0_scratch1) (rect8 k h) fullShare f)
abbrev sbrA (c : Dev nD) (k : ℕ) (h : ∀ a, (![k, 0, 0] : Fin 3 → ℕ) a + S1x256x1024.size a ≤ S4x256x1024.size a) : sProp 𝕄 :=
  iprop(∃ f, held (F := F) c (Memref.whole cc0_scratch2) (rect4 k h) fullShare f)
abbrev sblA (c : Dev nD) (k : ℕ) (h : ∀ a, (![k, 0, 0] : Fin 3 → ℕ) a + S1x256x1024.size a ≤ S3x256x1024.size a) : sProp 𝕄 :=
  iprop(∃ f, held (F := F) c (Memref.whole cc0_scratch4) (rect3 k h) fullShare f)

/-- What the device pays the four signals with. -/
def units (c : Dev nD) : sProp 𝕄 :=
  iprop(dutyTok ER (barCell (prv c)) 0 true ∗ dutyTok ER (barCell (nxt c)) 0 false ∗ dutyTok ER (exitCell (prv c)) 0 true ∗ dutyTok ER (exitCell (nxt c)) 0 false
    ∗ reached ER (barCell (prv c)) 0 ∗ reached ER (barCell (nxt c)) 0
    ∗ atPos ER (barCell c) 0 ∅ 0 ∗ atPos ER (exitCell c) 0 ∅ 0 ∗ cred (tallyAt (barCell c) () 2) ∗ cred (tallyAt (exitCell c) () 2))

/-- The rows the neighbours' copies land in, at whatever they hold, and that those cells are open. -/
def landings (c : Dev nD) : sProp 𝕄 :=
  iprop((reached ER (exitCell c) 0 ∗ landing (F := F) c 0 ∗ landing (F := F) c 2 ∗ landing (F := F) c 4 ∗ landing (F := F) c 6
    ∗ landing (F := F) c 8 ∗ landing (F := F) c 10 ∗ landing (F := F) c 12 ∗ landing (F := F) c 13)
  ∗ reached ER (exitCell c) 0 ∗ landing (F := F) c 1 ∗ landing (F := F) c 3 ∗ landing (F := F) c 5
    ∗ landing (F := F) c 7 ∗ landing (F := F) c 9 ∗ landing (F := F) c 11)

def gears (c : Dev nD) : sProp 𝕄 :=
  iprop(gear (F := F) c 0 ∗ gear (F := F) c 1 ∗ gear (F := F) c 2 ∗ gear (F := F) c 3 ∗ gear (F := F) c 4 ∗ gear (F := F) c 5 ∗ gear (F := F) c 6
    ∗ gear (F := F) c 7 ∗ gear (F := F) c 8 ∗ gear (F := F) c 9 ∗ gear (F := F) c 10 ∗ gear (F := F) c 11 ∗ gear (F := F) c 12 ∗ gear (F := F) c 13)

def bodyPre (c : Dev nD) : sProp 𝕄 :=
  iprop(records A K ∗ levAts L lv ∗ owing c (O₀ c) ∗ units c ∗ gears c ∗ landings c
    ∗ pt c cc0_stg0_0 (A.x c) ∗ pt c cc0_stg1_0 (A.wq c) ∗ pt c cc0_stg2_0 (A.wo c) ∗ (∃ f, pt c cc0_stg3_0 f)
    ∗ pt c main_v19 (A.kt c) ∗ pt c main_v29 (A.vt c)
    ∗ xgA c 0 (by decide)
    ∗ (partA c 0 (by decide) ∗ partA c 1 (by decide) ∗ partA c 2 (by decide) ∗ partA c 3 (by decide)
      ∗ partA c 4 (by decide) ∗ partA c 5 (by decide) ∗ partA c 6 (by decide) ∗ partA c 7 (by decide))
    ∗ (sbrA c 0 (by decide) ∗ sbrA c 1 (by decide) ∗ sbrA c 2 (by decide) ∗ sbrA c 3 (by decide))
    ∗ (sblA c 0 (by decide) ∗ sblA c 1 (by decide) ∗ sblA c 2 (by decide))
    ∗ (∃ f, pt c cc0_scratch6 f) ∗ (∃ f, pt c cc0_scratch7 f)
    ∗ semVal ((c : Thread nD τ), SemLoc.dma ((cc0_scratch16.slice (Rect.unit (s := S2) ![0] S1.size inb_S2_S1_0)).squeeze S_ squeezes_S1_S_).sem) 0 ∗ semVal ((c : Thread nD τ), SemLoc.dma ((cc0_scratch16.slice (Rect.unit (s := S2) ![1] S1.size inb_S2_S1_1)).squeeze S_ squeezes_S1_S_).sem) 0)

/-- What the body leaves: every credit spent, every row back, the output in its staging buffer. -/
def bodyPost (c : Dev nD) : sProp 𝕄 :=
  iprop(owing c 0 ∗ atPos ER (barCell c) 1 ∅ 0 ∗ atPos ER (exitCell c) 1 ∅ 0
    ∗ (closed (F := F) c 0
      ∗ closed (F := F) c 1
      ∗ closed (F := F) c 2
      ∗ closed (F := F) c 3
      ∗ closed (F := F) c 4
      ∗ closed (F := F) c 5
      ∗ closed (F := F) c 6
      ∗ closed (F := F) c 7
      ∗ closed (F := F) c 8
      ∗ closed (F := F) c 9
      ∗ closed (F := F) c 10
      ∗ closed (F := F) c 11
      ∗ closed (F := F) c 12
      ∗ closed (F := F) c 13)
    ∗ (sendP A c 0
      ∗ sendP A c 1
      ∗ sendP A c 2
      ∗ sendP A c 3
      ∗ sendP A c 4
      ∗ sendP A c 5
      ∗ sendP A c 6
      ∗ sendP A c 7
      ∗ sendP A c 8
      ∗ sendP A c 9
      ∗ sendP A c 10
      ∗ sendP A c 11
      ∗ sendP A c 12
      ∗ sendP A c 13)
    ∗ pt c cc0_stg0_0 (A.x c) ∗ pt c cc0_stg1_0 (A.wq c) ∗ pt c cc0_stg2_0 (A.wo c) ∗ pt c cc0_stg3_0 (outOf A c)
    ∗ pt c main_v19 (A.kt c) ∗ pt c main_v29 (A.vt c) ∗ pt c cc0_scratch6 (A.kt c) ∗ pt c cc0_scratch7 (A.vt c)
    ∗ semVal ((c : Thread nD τ), SemLoc.dma ((cc0_scratch16.slice (Rect.unit (s := S2) ![0] S1.size inb_S2_S1_0)).squeeze S_ squeezes_S1_S_).sem) 0 ∗ semVal ((c : Thread nD τ), SemLoc.dma ((cc0_scratch16.slice (Rect.unit (s := S2) ![1] S1.size inb_S2_S1_1)).squeeze S_ squeezes_S1_S_).sem) 0
    ∗ (hold c (Memref.whole cc0_scratch0) (rect8 0 inb_S8x256x1024_S1x256x1024_0_0_0) fullShare.right.right (blk A (sh 0 c))
      ∗ hold c (Memref.whole cc0_scratch0) (rect8 1 inb_S8x256x1024_S1x256x1024_1_0_0) fullShare.right (blk A (sh 1 c))
      ∗ hold c (Memref.whole cc0_scratch0) (rect8 2 inb_S8x256x1024_S1x256x1024_2_0_0) fullShare.right (blk A (sh 2 c))
      ∗ hold c (Memref.whole cc0_scratch0) (rect8 3 inb_S8x256x1024_S1x256x1024_3_0_0) fullShare (blk A (sh 3 c))
      ∗ hold c (Memref.whole cc0_scratch0) (rect8 4 inb_S8x256x1024_S1x256x1024_4_0_0) fullShare (blk A (sh 4 c))
      ∗ hold c (Memref.whole cc0_scratch0) (rect8 5 inb_S8x256x1024_S1x256x1024_5_0_0) fullShare.right (blk A (sh 5 c))
      ∗ hold c (Memref.whole cc0_scratch0) (rect8 6 inb_S8x256x1024_S1x256x1024_6_0_0) fullShare.right (blk A (sh 6 c))
      ∗ hold c (Memref.whole cc0_scratch0) (rect8 7 inb_S8x256x1024_S1x256x1024_7_0_0) fullShare.right (blk A (sh 7 c)))
    ∗ (hold c (Memref.whole cc0_scratch1) (rect8 0 inb_S8x256x1024_S1x256x1024_0_0_0) fullShare (part A c 0)
      ∗ hold c (Memref.whole cc0_scratch1) (rect8 1 inb_S8x256x1024_S1x256x1024_1_0_0) fullShare (part A c 1)
      ∗ hold c (Memref.whole cc0_scratch1) (rect8 2 inb_S8x256x1024_S1x256x1024_2_0_0) fullShare (part A c 2)
      ∗ hold c (Memref.whole cc0_scratch1) (rect8 3 inb_S8x256x1024_S1x256x1024_3_0_0) fullShare (part A c 3)
      ∗ hold c (Memref.whole cc0_scratch1) (rect8 4 inb_S8x256x1024_S1x256x1024_4_0_0) fullShare (part A c 4)
      ∗ hold c (Memref.whole cc0_scratch1) (rect8 5 inb_S8x256x1024_S1x256x1024_5_0_0) fullShare (part A c 5)
      ∗ hold c (Memref.whole cc0_scratch1) (rect8 6 inb_S8x256x1024_S1x256x1024_6_0_0) fullShare (part A c 6)
      ∗ hold c (Memref.whole cc0_scratch1) (rect8 7 inb_S8x256x1024_S1x256x1024_7_0_0) fullShare (part A c 7))
    ∗ (hold c (Memref.whole cc0_scratch5) (rect3 0 inb_S3x256x1024_S1x256x1024_0_0_0) fullShare (l0 A (nxt c))
      ∗ hold c (Memref.whole cc0_scratch5) (rect3 1 inb_S3x256x1024_S1x256x1024_1_0_0) fullShare (l1 A (nxt c))
      ∗ hold c (Memref.whole cc0_scratch5) (rect3 2 inb_S3x256x1024_S1x256x1024_2_0_0) fullShare (l2 A (nxt c)))
    ∗ (hold c (Memref.whole cc0_scratch3) (rect4 0 inb_S4x256x1024_S1x256x1024_0_0_0) fullShare (r0 A (prv c))
      ∗ hold c (Memref.whole cc0_scratch3) (rect4 1 inb_S4x256x1024_S1x256x1024_1_0_0) fullShare (r1 A (prv c))
      ∗ hold c (Memref.whole cc0_scratch3) (rect4 2 inb_S4x256x1024_S1x256x1024_2_0_0) fullShare (r2 A (prv c))
      ∗ hold c (Memref.whole cc0_scratch3) (rect4 3 inb_S4x256x1024_S1x256x1024_3_0_0) fullShare (r3 A (prv c))))

abbrev theBody : Prog (TpuEff nD τ sig (Elt F) Λ₀ .tc) PUnit :=
  cc0__body (Memref.whole cc0_stg0_0) (hstage0_0 0) (Memref.whole cc0_stg1_0) (hstage0_1 0) (Memref.whole main_v19) (Memref.isWhole_whole _) (Memref.whole main_v29) (Memref.isWhole_whole _) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scoped0

/-- The `device_id` chains: an odd one names the left neighbour or the right one. -/
theorem dev1 (c : Dev nD) : (⟨k0_dev1 c, k0_dev1_lt c⟩ : Dev nD) = prv c := Fin.ext (k0_dev1_eq c)
theorem dev2 (c : Dev nD) : (⟨k0_dev2 c, k0_dev2_lt c⟩ : Dev nD) = nxt c := Fin.ext (k0_dev2_eq c)

/-! ## The rules, one hypothesis at a time -/

theorem curry4 {P₁ P₂ P₃ P₄ R : sProp 𝕄} (h : iprop(P₁ ∗ P₂ ∗ P₃ ∗ P₄) ⊢ R) : ⊢ iprop(P₁ -∗ P₂ -∗ P₃ -∗ P₄ -∗ R) := by
  iintro H₁ H₂ H₃ H₄
  iapply h
  isplitl [H₁]; · iexact H₁
  isplitl [H₂]; · iexact H₂
  isplitl [H₃]; · iexact H₃
  iexact H₄
theorem curry5 {P₁ P₂ P₃ P₄ P₅ R : sProp 𝕄} (h : iprop(P₁ ∗ P₂ ∗ P₃ ∗ P₄ ∗ P₅) ⊢ R) : ⊢ iprop(P₁ -∗ P₂ -∗ P₃ -∗ P₄ -∗ P₅ -∗ R) := by
  iintro H₁ H₂ H₃ H₄ H₅
  iapply h
  isplitl [H₁]; · iexact H₁
  isplitl [H₂]; · iexact H₂
  isplitl [H₃]; · iexact H₃
  isplitl [H₄]; · iexact H₄
  iexact H₅

/-- The units at the two barriers carry the rows that the neighbours' copies land in. -/
theorem pay_prv (c : Dev nD) : iprop(reached ER (exitCell c) 0 ∗ landing (F := F) c 0 ∗ landing (F := F) c 2 ∗ landing (F := F) c 4 ∗ landing (F := F) c 6
    ∗ landing (F := F) c 8 ∗ landing (F := F) c 10 ∗ landing (F := F) c 12 ∗ landing (F := F) c 13) ⊢ (Rd A).payload (barCell (prv c)) 0 true := by
  rw [payload_bar_true]; unfold barT; rw [nxt_prv]
theorem pay_nxt (c : Dev nD) : iprop(reached ER (exitCell c) 0 ∗ landing (F := F) c 1 ∗ landing (F := F) c 3 ∗ landing (F := F) c 5
    ∗ landing (F := F) c 7 ∗ landing (F := F) c 9 ∗ landing (F := F) c 11) ⊢ (Rd A).payload (barCell (nxt c)) 0 false := by
  rw [payload_bar_false]; unfold barF; rw [prv_nxt]

/-! ## Rows: stored, split, lent, received -/

section Rows
variable {s : Shape} {e : EltTy} (c : Dev nD) (M : Memref sig .tc .vmem s e) (R : Rect s) (q : PosShare TreeShare) (P : R.shape.Idx → Elt F e)

/-- A row just stored reads what was stored. -/
theorem stored (f : Buf (Elt F) (M.view.loc (c : Thread nD τ))) :
    (held c M R q (M.view.writes (Elt F) f [⟨R, P⟩]) : sProp 𝕄) ⊢ hold c M R q P := by
  unfold hold
  iintro H
  iexists _
  isplitr
  rotate_left
  · iexact H
  · ipureintro
    exact View.read_write_univ (v := M.view.slice R) f P

theorem stored_as (P' : R.shape.Idx → Elt F e) (h : P = P') (f : Buf (Elt F) (M.view.loc (c : Thread nD τ))) :
    (held c M R q (M.view.writes (Elt F) f [⟨R, P⟩]) : sProp 𝕄) ⊢ hold c M R q P' := by
  subst h; exact stored c M R q P f

/-- The same, with the one store written as a list. -/
theorem stored_list (P' : R.shape.Idx → Elt F e) (Ls : List (View.Piece (Elt F) s e)) (h : Ls = [⟨R, P'⟩]) (f : Buf (Elt F) (M.view.loc (c : Thread nD τ))) :
    (held c M R q (M.view.writes (Elt F) f Ls) : sProp 𝕄) ⊢ hold c M R q P' := by
  subst h; exact stored c M R q P' f

/-- What a load of a row just stored reads. -/
theorem read_back (P' : R.shape.Idx → Elt F e) (Ls : List (View.Piece (Elt F) s e)) (h : Ls = [⟨R, P'⟩]) :
    M.view.readCov Ls R.toLoadRect = P' := by
  subst h; exact View.read_write_univ (v := M.view.slice R) _ P'

theorem hold_open : (hold c M R q P : sProp 𝕄) ⊢ iprop(∃ f : Buf (Elt F) (M.view.loc (c : Thread nD τ)), ⌜M.view.readAt (Elt F) R.toLoadRect f = P⌝ ∗ held c M R q f) := by
  unfold hold; exact Entails.refl _

theorem hold_close (f : Buf (Elt F) (M.view.loc (c : Thread nD τ))) (h : M.view.readAt (Elt F) R.toLoadRect f = P) :
    (held c M R q f : sProp 𝕄) ⊢ hold c M R q P := by
  unfold hold; iintro H; iexists f
  isplitr
  · ipureintro; exact h
  iexact H

theorem hold_split : (hold c M R q P : sProp 𝕄) ⊢ iprop(hold c M R q.left P ∗ hold c M R q.right P) := by
  unfold hold held
  iintro ⟨%f, %hf, H⟩
  ihave H := (pointsTo_share (PosShare.mem_left_op_right q)).1 $$ H
  icases H with ⟨H₁, H₂⟩
  isplitl [H₁]
  · iexists f; isplitr
    · ipureintro; exact hf
    iexact H₁
  · iexists f; isplitr
    · ipureintro; exact hf
    iexact H₂

end Rows

section Lend
variable {n : Fin 3 → ℕ} (c : Dev nD) (M : Memref sig .tc .vmem ⟨3, n⟩ .bf16) (o : Fin 3 → ℕ)
  (h : ∀ a, o a + S1x256x1024.size a ≤ n a) (q : PosShare TreeShare) (P : Vec F S1x256x1024 .bf16) (i : Fin 14)

/-- A row of a scratch buffer, and its squeezed view. -/
abbrev rowR : Rect ⟨3, n⟩ := Rect.unit (s := ⟨3, n⟩) o S1x256x1024.size h
abbrev rowM : Memref sig .tc .vmem S256x1024 .bf16 := (M.slice (rowR o h) (fun _ => rfl)).squeeze S256x1024 squeezes_S1x256x1024_S256x1024

theorem lend (hs : srcM i = rowM M o h) (hq : share i = q) (hP : Y A c i = P) :
    (hold c M (rowR o h) q P : sProp 𝕄) ⊢ sendP A c i := by
  unfold sendP; rw [hs, hq, hP]
  exact row_close c M (rowR o h) (fun _ => rfl) squeezes_S1x256x1024_S256x1024 shapeCasts_S1x256x1024_S256x1024 q P
theorem take (hd : dstM i = rowM M o h) (hP : Y A (source c i) i = P) :
    recvP A c i ⊢ (hold c M (rowR o h) fullShare P : sProp 𝕄) := by
  unfold recvP; rw [hd, hP]
  exact row_open c M (rowR o h) (fun _ => rfl) squeezes_S1x256x1024_S256x1024 shapeCasts_S1x256x1024_S256x1024 fullShare P

end Lend

/-- Each odd copy goes left and each even one right, but the last. -/
theorem dev_even (c : Dev nD) (i : Fin 14) (h : right i = true) {d : Dev nD} (hd : d.val = (c.val + 1) % 8) : d = peer c i := by
  unfold peer; rw [if_pos h]; exact Fin.ext hd
theorem dev_odd (c : Dev nD) (i : Fin 14) (h : right i = false) {d : Dev nD} (hd : d.val = (c.val + 7) % 8) : d = peer c i := by
  unfold peer; rw [if_neg (by rw [h]; exact Bool.false_ne_true)]; exact Fin.ext hd

/-- The local copies' cells are below everything. -/
theorem mayWait_cp (c : Dev nD) (k : ℕ) (hk : k ≤ 14) (q : DmaSem sig) (hq : role q = none) :
    (levAts L lv : sProp 𝕄) ⊢ MayWait (c : Thread nD τ) (.dma q) () (Ox c k) :=
  mayWait_x c k hk _ (by
    have : lv ((c : Thread nD τ), SemLoc.dma q) () = 0 := by
      show (match role q with | some (.inr i) => i.val + 2 | _ => 0) = 0; rw [hq]
    omega)

theorem owing_open (c : Dev nD) (O : CellTallies nD τ sig Unit) : (owing c O : sProp 𝕄) ⊢ iprop(∃ W, owes (c : Thread nD τ) O W) := by
  unfold owing; exact Entails.refl _
theorem owing_close (c : Dev nD) (O : CellTallies nD τ sig Unit) (W : Finset (SemLoc sig × Unit)) : (owes (c : Thread nD τ) O W : sProp 𝕄) ⊢ owing c O := by
  unfold owing; iintro H; iexists W; iexact H

/-- A local copy of a whole buffer leaves there what was read. -/
theorem landed (c : Dev nD) (b : Ref sig .tc) (f : Buf (Elt F) ((Memref.whole b).view.loc (c : Thread nD τ))) (w w' : Buf (Elt F) ((Memref.whole b).view.loc (c : Thread nD τ)))
    (h : w = w') : (pt c b (View.write (Elt F) (Memref.whole b).view f w Finset.univ) : sProp 𝕄) ⊢ pt c b w' := by
  subst h
  exact Entails.of_eq (congrArg (pt c b) (View.read_write_univ (v := (Memref.whole b).view) f w))
theorem restate (c : Dev nD) (b : Ref sig .tc) (f g : Buf (Elt F) ((Memref.whole b).view.loc (c : Thread nD τ))) (h : f = g) :
    (pt c b f : sProp 𝕄) ⊢ pt c b g := Entails.of_eq (congrArg (pt c b) h)

/-- A store over a whole buffer leaves there what was stored. -/
theorem full_store (c : Dev nD) (f : Buf (Elt F) ((Memref.whole cc0_stg3_0).view.loc (c : Thread nD τ))) (P P' : Vec F S256x1024 .f32) (h : P = P') :
    (pt c cc0_stg3_0 ((Memref.whole cc0_stg3_0).view.writes (Elt F) f
      [⟨Rect.unit (s := S256x1024) ![0, 0] S256x1024.size inb_S256x1024_S256x1024_0_0, P⟩]) : sProp 𝕄) ⊢ pt c cc0_stg3_0 P' := by
  subst h
  refine Entails.of_eq (congrArg (pt c cc0_stg3_0) ?_)
  have h₁ : ∀ g : Buf (Elt F) ((Memref.whole cc0_stg3_0).view.loc (c : Thread nD τ)),
      View.readAt (Elt F) (Memref.whole cc0_stg3_0).view (Rect.unit (s := S256x1024) ![0, 0] S256x1024.size inb_S256x1024_S256x1024_0_0).toLoadRect g = g :=
    fun g => View.readAt_full (s := S256x1024) (Memref.whole cc0_stg3_0).view g inb_S256x1024_S256x1024_0_0
  exact (h₁ _).symm.trans (View.read_write_univ
    (v := (Memref.whole cc0_stg3_0).view.slice (Rect.unit (s := S256x1024) ![0, 0] S256x1024.size inb_S256x1024_S256x1024_0_0)) f P)

theorem dev_prv (c d : Dev nD) (h : d.val = (c.val + 7) % 8) : d = prv c := Fin.ext h
theorem dev_nxt (c d : Dev nD) (h : d.val = (c.val + 1) % 8) : d = nxt c := Fin.ext h

/-- The end of the body. -/
theorem wp_done (c : Dev nD) (Kt : PUnit → sProp 𝕄) :
    (iprop(|={Set.univ}=> Kt ⟨⟩) : sProp 𝕄) ⊢ wp frame (wpE (defs₀ (F := F)) 𝒱₀ c none) Set.univ
      ((Prog.ret PUnit.unit).bind fun _ => (Pure.pure PUnit.unit : Prog (TpuEff nD τ sig (Elt F) Λ₀ .tc) PUnit)) Kt := by
  show _ ⊢ wp frame (wpE (defs₀ (F := F)) 𝒱₀ c none) Set.univ (Prog.ret PUnit.unit) Kt
  rw [wp_ret]

set_option maxHeartbeats 16000000 in
theorem run (c : Dev nD) (Kt : PUnit → sProp 𝕄) :
    iprop(bodyPre A K c ∗ (bodyPost A c -∗ |={Set.univ}=> Kt ⟨⟩)) ⊢ wp frame (wpE (defs₀ (F := F)) 𝒱₀ c none) Set.univ theBody Kt := by
  unfold theBody
  simp only [cc0__body_eq_skeleton]; unfold cc0__body_skel
  simp only [k0_part48_eq_skeleton]; unfold k0_part48_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold bodyPre units gears landings
  iintro ⟨⟨#HR, #HL, HO, ⟨Hbp, Hbn, Hep, Hen, #Rbp, #Rbn, Hab, Hae, Hcb, Hce⟩,
    ⟨G0, G1, G2, G3, G4, G5, G6, G7, G8, G9, G10, G11, G12, G13⟩, ⟨LT, LF⟩,
    Hx, Hwq, Hwo, ⟨%fo, Ho⟩, Hkt, Hvt, ⟨%fx, X0⟩, ⟨⟨%p0, P0⟩, ⟨%p1, P1⟩, ⟨%p2, P2⟩, ⟨%p3, P3⟩, ⟨%p4, P4⟩, ⟨%p5, P5⟩, ⟨%p6, P6⟩, ⟨%p7, P7⟩⟩, ⟨⟨%e0, SR0⟩, ⟨%e1, SR1⟩, ⟨%e2, SR2⟩, ⟨%e3, SR3⟩⟩, ⟨⟨%d0, SL0⟩, ⟨%d1, SL1⟩, ⟨%d2, SL2⟩⟩,
    ⟨%fk, Hk⟩, ⟨%fv, Hv⟩, Hc0, Hc1⟩, HK⟩
  have hx : (Memref.whole cc0_stg0_0).view.readAt (Elt F) (Rect.unit (s := S256x1024) ![0, 0] S256x1024.size inb_S256x1024_S256x1024_0_0).toLoadRect (A.x c) = A.x c := by
    exact (View.readAt_full _ _ _).trans rfl
  sl_exec
  iapply (curry5 (wp_unit A K c (prv c) (dev1 c) true false rfl (O₁ c) (O₀ c) rfl rfl)) $$ HR HO Hbp Rbp [LT]
  · iapply (pay_prv A c); iexact LT
  iintro HO
  sl_exec
  iapply (curry5 (wp_unit A K c (nxt c) (dev2 c) false false rfl (Ox c 0) (O₁ c) rfl rfl)) $$ HR HO Hbn Rbn [LF]
  · iapply (pay_nxt A c); iexact LF
  iintro HO
  sl_exec
  iapply (curry5 (wp_barrier A K c rfl)) $$ HR HL HO Hcb Hab
  unfold barF barT
  iintro ⟨HO, Hab, ⟨#Rep, D1, D3, D5, D7, D9, D11⟩, #Ren, D0, D2, D4, D6, D8, D10, D12, D13⟩
  sl_exec
  ihave X0 := (stored c _ _ _ _ _) $$ X0
  ihave X0 := (show (hold c (Memref.whole cc0_scratch0) (rect8 0 inb_S8x256x1024_S1x256x1024_0_0_0) fullShare (k0_pay1 (A.x c)) : sProp 𝕄)
    ⊢ hold c (Memref.whole cc0_scratch0) (rect8 0 inb_S8x256x1024_S1x256x1024_0_0_0) fullShare (blk A (sh 0 c)) from Entails.of_eq (by rw [sh_zero]; rfl)) $$ X0
  ihave X0 := (hold_split c _ _ _ _) $$ X0
  icases X0 with ⟨S0, X0⟩
  ihave X0 := (hold_split c _ _ _ _) $$ X0
  icases X0 with ⟨S1, X0⟩
  ihave S0 := (lend A c (Memref.whole cc0_scratch0) _ inb_S8x256x1024_S1x256x1024_0_0_0 fullShare.left (blk A (sh 0 c)) 0 rfl rfl rfl) $$ S0
  ihave S1 := (lend A c (Memref.whole cc0_scratch0) _ inb_S8x256x1024_S1x256x1024_0_0_0 fullShare.right.left (blk A (sh 0 c)) 1 rfl rfl rfl) $$ S1
  iapply (curry5 (wp_copy A K c 0 0 rfl (dev_even c 0 rfl (k0_dev3_eq c)) rfl rfl rfl rfl)) $$ HR HO G0 [D0] S0
  · iexact D0
  iintro ⟨HO, G0⟩
  sl_exec
  iapply (curry5 (wp_copy A K c 1 1 rfl (dev_odd c 1 rfl (k0_dev4_eq c)) rfl rfl rfl rfl)) $$ HR HO G1 [D1] S1
  · iexact D1
  iintro ⟨HO, G1⟩
  ihave HO := (owing_open c (Ox c 2)) $$ HO
  icases HO with ⟨%W, HO⟩
  have hw0 := mayWait_cp (F := F) c 2 (by omega) (((cc0_scratch16.slice (Rect.unit (s := S2) ![0] S1.size inb_S2_S1_0)).squeeze S_ squeezes_S1_S_).sem) rfl
  have hw1 := mayWait_cp (F := F) c 2 (by omega) (((cc0_scratch16.slice (Rect.unit (s := S2) ![1] S1.size inb_S2_S1_1)).squeeze S_ squeezes_S1_S_).sem) rfl
  sl_exec
  ihave Hk := (landed c cc0_scratch6 _ (run.sl.dma0 A c) (A.kt c) rfl) $$ Hk
  ihave Hv := (landed c cc0_scratch7 _ (run.sl.dma0_1 A c) (A.vt c) rfl) $$ Hv
  ihave HO := (owing_close c _ _) $$ HO
  ihave X0 := (hold_open c _ _ _ _) $$ X0
  icases X0 with ⟨%f0, %hf0, X0⟩
  sl_exec
  ihave X0 := (hold_close c _ _ _ _ f0 hf0) $$ X0
  ihave P0 := (stored_as c (Memref.whole cc0_scratch1) (rect8 0 inb_S8x256x1024_S1x256x1024_0_0_0) fullShare _ (part A c 0) ?_ _) $$ P0
  · rfl
  iapply (curry4 (wp_arrive A K c 0 2 ⟨by decide, by decide⟩ rfl (dst := dstM 0) (credit_dst 0))) $$ HR HL HO G0
  iintro ⟨HO, G0, X7⟩
  ihave X7 := (take A c (Memref.whole cc0_scratch0) _ inb_S8x256x1024_S1x256x1024_7_0_0 (blk A (sh 7 c)) 0 rfl (congrArg (blk A) ((sh_sh 0 7 c).trans (sh_mod (7 + 0) c).symm))) $$ X7
  ihave X7 := (hold_split c _ _ _ _) $$ X7
  icases X7 with ⟨S2, X7⟩
  ihave S2 := (lend A c (Memref.whole cc0_scratch0) _ inb_S8x256x1024_S1x256x1024_7_0_0 fullShare.left (blk A (sh 7 c)) 2 rfl rfl rfl) $$ S2
  sl_exec
  iapply (curry5 (wp_copy A K c 2 2 rfl (dev_even c 2 rfl (k0_dev5_eq c)) rfl rfl rfl rfl)) $$ HR HO G2 [D2] S2
  · iexact D2
  iintro ⟨HO, G2⟩
  sl_exec
  iapply (curry4 (wp_arrive A K c 1 3 ⟨by decide, by decide⟩ rfl (dst := dstM 1) (credit_dst 1))) $$ HR HL HO G1
  iintro ⟨HO, G1, X1⟩
  ihave X1 := (take A c (Memref.whole cc0_scratch0) _ inb_S8x256x1024_S1x256x1024_1_0_0 (blk A (sh 1 c)) 1 rfl (congrArg (blk A) ((sh_sh 0 1 c).trans (sh_mod (1 + 0) c).symm))) $$ X1
  ihave X1 := (hold_split c _ _ _ _) $$ X1
  icases X1 with ⟨S3, X1⟩
  ihave S3 := (lend A c (Memref.whole cc0_scratch0) _ inb_S8x256x1024_S1x256x1024_1_0_0 fullShare.left (blk A (sh 1 c)) 3 rfl rfl rfl) $$ S3
  sl_exec
  iapply (curry5 (wp_copy A K c 3 3 rfl (dev_odd c 3 rfl (k0_dev6_eq c)) rfl rfl rfl rfl)) $$ HR HO G3 [D3] S3
  · iexact D3
  iintro ⟨HO, G3⟩
  ihave X7 := (hold_open c _ _ _ _) $$ X7
  icases X7 with ⟨%f7, %hf7, X7⟩
  sl_exec
  ihave X7 := (hold_close c _ _ _ _ f7 hf7) $$ X7
  ihave P7 := (stored_as c (Memref.whole cc0_scratch1) (rect8 7 inb_S8x256x1024_S1x256x1024_7_0_0) fullShare _ (part A c 7) ?_ _) $$ P7
  · rfl
  iapply (curry4 (wp_arrive A K c 2 4 ⟨by decide, by decide⟩ rfl (dst := dstM 2) (credit_dst 2))) $$ HR HL HO G2
  iintro ⟨HO, G2, X6⟩
  ihave X6 := (take A c (Memref.whole cc0_scratch0) _ inb_S8x256x1024_S1x256x1024_6_0_0 (blk A (sh 6 c)) 2 rfl (congrArg (blk A) ((sh_sh 7 7 c).trans (sh_mod (7 + 7) c).symm))) $$ X6
  ihave X6 := (hold_split c _ _ _ _) $$ X6
  icases X6 with ⟨S4, X6⟩
  ihave S4 := (lend A c (Memref.whole cc0_scratch0) _ inb_S8x256x1024_S1x256x1024_6_0_0 fullShare.left (blk A (sh 6 c)) 4 rfl rfl rfl) $$ S4
  sl_exec
  iapply (curry5 (wp_copy A K c 4 4 rfl (dev_even c 4 rfl (k0_dev7_eq c)) rfl rfl rfl rfl)) $$ HR HO G4 [D4] S4
  · iexact D4
  iintro ⟨HO, G4⟩
  sl_exec
  iapply (curry4 (wp_arrive A K c 3 5 ⟨by decide, by decide⟩ rfl (dst := dstM 3) (credit_dst 3))) $$ HR HL HO G3
  iintro ⟨HO, G3, X2⟩
  ihave X2 := (take A c (Memref.whole cc0_scratch0) _ inb_S8x256x1024_S1x256x1024_2_0_0 (blk A (sh 2 c)) 3 rfl (congrArg (blk A) ((sh_sh 1 1 c).trans (sh_mod (1 + 1) c).symm))) $$ X2
  ihave X2 := (hold_split c _ _ _ _) $$ X2
  icases X2 with ⟨S5, X2⟩
  ihave S5 := (lend A c (Memref.whole cc0_scratch0) _ inb_S8x256x1024_S1x256x1024_2_0_0 fullShare.left (blk A (sh 2 c)) 5 rfl rfl rfl) $$ S5
  sl_exec
  iapply (curry5 (wp_copy A K c 5 5 rfl (dev_odd c 5 rfl (k0_dev8_eq c)) rfl rfl rfl rfl)) $$ HR HO G5 [D5] S5
  · iexact D5
  iintro ⟨HO, G5⟩
  ihave X6 := (hold_open c _ _ _ _) $$ X6
  icases X6 with ⟨%f6, %hf6, X6⟩
  sl_exec
  ihave X6 := (hold_close c _ _ _ _ f6 hf6) $$ X6
  ihave P6 := (stored_as c (Memref.whole cc0_scratch1) (rect8 6 inb_S8x256x1024_S1x256x1024_6_0_0) fullShare _ (part A c 6) ?_ _) $$ P6
  · rfl
  iapply (curry4 (wp_arrive A K c 4 6 ⟨by decide, by decide⟩ rfl (dst := dstM 4) (credit_dst 4))) $$ HR HL HO G4
  iintro ⟨HO, G4, X5⟩
  ihave X5 := (take A c (Memref.whole cc0_scratch0) _ inb_S8x256x1024_S1x256x1024_5_0_0 (blk A (sh 5 c)) 4 rfl (congrArg (blk A) ((sh_sh 6 7 c).trans (sh_mod (7 + 6) c).symm))) $$ X5
  ihave X5 := (hold_split c _ _ _ _) $$ X5
  icases X5 with ⟨S6, X5⟩
  ihave S6 := (lend A c (Memref.whole cc0_scratch0) _ inb_S8x256x1024_S1x256x1024_5_0_0 fullShare.left (blk A (sh 5 c)) 6 rfl rfl rfl) $$ S6
  sl_exec
  iapply (curry5 (wp_copy A K c 6 6 rfl (dev_even c 6 rfl (k0_dev9_eq c)) rfl rfl rfl rfl)) $$ HR HO G6 [D6] S6
  · iexact D6
  iintro ⟨HO, G6⟩
  sl_exec
  iapply (curry4 (wp_arrive A K c 5 7 ⟨by decide, by decide⟩ rfl (dst := dstM 5) (credit_dst 5))) $$ HR HL HO G5
  iintro ⟨HO, G5, X3⟩
  ihave X3 := (take A c (Memref.whole cc0_scratch0) _ inb_S8x256x1024_S1x256x1024_3_0_0 (blk A (sh 3 c)) 5 rfl (congrArg (blk A) ((sh_sh 2 1 c).trans (sh_mod (1 + 2) c).symm))) $$ X3
  ihave X5 := (hold_open c _ _ _ _) $$ X5
  icases X5 with ⟨%f5, %hf5, X5⟩
  sl_exec
  ihave X5 := (hold_close c _ _ _ _ f5 hf5) $$ X5
  have hL5 : run.sl.P5_1 A c = [⟨rect8 5 inb_S8x256x1024_S1x256x1024_5_0_0, part A c 5⟩] := rfl
  ihave P5 := (stored_list c (Memref.whole cc0_scratch1) (rect8 5 inb_S8x256x1024_S1x256x1024_5_0_0) fullShare (part A c 5) (run.sl.P5_1 A c) hL5 p5) $$ P5
  ihave S7 := (stored_as c (Memref.whole cc0_scratch4) (rowR _ inb_S3x256x1024_S1x256x1024_0_0_0) fullShare _ (l0 A c) ?_ _) $$ SL0
  · exact congrArg k0_pay79 (read_back (Memref.whole cc0_scratch1) (rect8 5 inb_S8x256x1024_S1x256x1024_5_0_0) (part A c 5) _ hL5)
  ihave S7 := (lend A c (Memref.whole cc0_scratch4) _ inb_S3x256x1024_S1x256x1024_0_0_0 fullShare (l0 A c) 7 rfl rfl rfl) $$ S7
  iapply (curry5 (wp_copy A K c 7 7 rfl (dev_odd c 7 rfl (k0_dev10_eq c)) rfl rfl rfl rfl)) $$ HR HO G7 [D7] S7
  · iexact D7
  iintro ⟨HO, G7⟩
  sl_exec
  iapply (curry4 (wp_arrive A K c 6 8 ⟨by decide, by decide⟩ rfl (dst := dstM 6) (credit_dst 6))) $$ HR HL HO G6
  iintro ⟨HO, G6, X4⟩
  ihave X4 := (take A c (Memref.whole cc0_scratch0) _ inb_S8x256x1024_S1x256x1024_4_0_0 (blk A (sh 4 c)) 6 rfl (congrArg (blk A) ((sh_sh 5 7 c).trans (sh_mod (7 + 5) c).symm))) $$ X4
  ihave X4 := (hold_open c _ _ _ _) $$ X4
  icases X4 with ⟨%f4, %hf4, X4⟩
  sl_exec
  ihave X4 := (hold_close c _ _ _ _ f4 hf4) $$ X4
  have hL4 : run.sl.P4_1 A c = [⟨rect8 4 inb_S8x256x1024_S1x256x1024_4_0_0, part A c 4⟩] := rfl
  ihave P4 := (stored_list c (Memref.whole cc0_scratch1) (rect8 4 inb_S8x256x1024_S1x256x1024_4_0_0) fullShare (part A c 4) (run.sl.P4_1 A c) hL4 p4) $$ P4
  ihave S8 := (stored_as c (Memref.whole cc0_scratch2) (rowR _ inb_S4x256x1024_S1x256x1024_0_0_0) fullShare _ (r0 A c) ?_ _) $$ SR0
  · exact congrArg k0_pay104 (read_back (Memref.whole cc0_scratch1) (rect8 4 inb_S8x256x1024_S1x256x1024_4_0_0) (part A c 4) _ hL4)
  ihave S8 := (lend A c (Memref.whole cc0_scratch2) _ inb_S4x256x1024_S1x256x1024_0_0_0 fullShare (r0 A c) 8 rfl rfl rfl) $$ S8
  iapply (curry5 (wp_copy A K c 8 8 rfl (dev_even c 8 rfl (k0_dev11_eq c)) rfl rfl rfl rfl)) $$ HR HO G8 [D8] S8
  · iexact D8
  iintro ⟨HO, G8⟩
  ihave X3 := (hold_open c _ _ _ _) $$ X3
  icases X3 with ⟨%f3, %hf3, X3⟩
  sl_exec
  ihave X3 := (hold_close c _ _ _ _ f3 hf3) $$ X3
  ihave P3 := (stored_as c (Memref.whole cc0_scratch1) (rect8 3 inb_S8x256x1024_S1x256x1024_3_0_0) fullShare _ (part A c 3) ?_ _) $$ P3
  · rfl
  iapply (curry4 (wp_arrive A K c 7 9 ⟨by decide, by decide⟩ rfl (dst := dstM 7) (credit_dst 7))) $$ HR HL HO G7
  iintro ⟨HO, G7, RL0⟩
  ihave RL0 := (take A c (Memref.whole cc0_scratch5) _ inb_S3x256x1024_S1x256x1024_0_0_0 (l0 A (nxt c)) 7 rfl rfl) $$ RL0
  ihave RL0 := (hold_open c _ _ _ _) $$ RL0
  icases RL0 with ⟨%g7, %hg7, RL0⟩
  ihave P6 := (hold_open c _ _ _ _) $$ P6
  icases P6 with ⟨%p6, %hp6, P6⟩
  sl_exec
  ihave P6 := (hold_close c _ _ _ _ p6 hp6) $$ P6
  ihave RL0 := (hold_close c _ _ _ _ g7 hg7) $$ RL0
  ihave S9 := (stored_as c (Memref.whole cc0_scratch4) (rowR _ inb_S3x256x1024_S1x256x1024_1_0_0) fullShare _ (l1 A c) ?_ _) $$ SL1
  · rfl
  ihave S9 := (lend A c (Memref.whole cc0_scratch4) _ inb_S3x256x1024_S1x256x1024_1_0_0 fullShare (l1 A c) 9 rfl rfl rfl) $$ S9
  iapply (curry5 (wp_copy A K c 9 9 rfl (dev_odd c 9 rfl (k0_dev12_eq c)) rfl rfl rfl rfl)) $$ HR HO G9 [D9] S9
  · iexact D9
  iintro ⟨HO, G9⟩
  sl_exec
  iapply (curry4 (wp_arrive A K c 8 10 ⟨by decide, by decide⟩ rfl (dst := dstM 8) (credit_dst 8))) $$ HR HL HO G8
  iintro ⟨HO, G8, RR0⟩
  ihave RR0 := (take A c (Memref.whole cc0_scratch3) _ inb_S4x256x1024_S1x256x1024_0_0_0 (r0 A (prv c)) 8 rfl rfl) $$ RR0
  ihave RR0 := (hold_open c _ _ _ _) $$ RR0
  icases RR0 with ⟨%g8, %hg8, RR0⟩
  ihave P3 := (hold_open c _ _ _ _) $$ P3
  icases P3 with ⟨%p3, %hp3, P3⟩
  sl_exec
  ihave P3 := (hold_close c _ _ _ _ p3 hp3) $$ P3
  ihave RR0 := (hold_close c _ _ _ _ g8 hg8) $$ RR0
  ihave S10 := (stored_as c (Memref.whole cc0_scratch2) (rowR _ inb_S4x256x1024_S1x256x1024_1_0_0) fullShare _ (r1 A c) ?_ _) $$ SR1
  · rfl
  ihave S10 := (lend A c (Memref.whole cc0_scratch2) _ inb_S4x256x1024_S1x256x1024_1_0_0 fullShare (r1 A c) 10 rfl rfl rfl) $$ S10
  iapply (curry5 (wp_copy A K c 10 10 rfl (dev_even c 10 rfl (k0_dev13_eq c)) rfl rfl rfl rfl)) $$ HR HO G10 [D10] S10
  · iexact D10
  iintro ⟨HO, G10⟩
  ihave X2 := (hold_open c _ _ _ _) $$ X2
  icases X2 with ⟨%f2, %hf2, X2⟩
  sl_exec
  ihave X2 := (hold_close c _ _ _ _ f2 hf2) $$ X2
  ihave P2 := (stored_as c (Memref.whole cc0_scratch1) (rect8 2 inb_S8x256x1024_S1x256x1024_2_0_0) fullShare _ (part A c 2) ?_ _) $$ P2
  · rfl
  iapply (curry4 (wp_arrive A K c 9 11 ⟨by decide, by decide⟩ rfl (dst := dstM 9) (credit_dst 9))) $$ HR HL HO G9
  iintro ⟨HO, G9, RL1⟩
  ihave RL1 := (take A c (Memref.whole cc0_scratch5) _ inb_S3x256x1024_S1x256x1024_1_0_0 (l1 A (nxt c)) 9 rfl rfl) $$ RL1
  ihave RL1 := (hold_open c _ _ _ _) $$ RL1
  icases RL1 with ⟨%g9, %hg9, RL1⟩
  ihave P7 := (hold_open c _ _ _ _) $$ P7
  icases P7 with ⟨%p7, %hp7, P7⟩
  sl_exec
  ihave P7 := (hold_close c _ _ _ _ p7 hp7) $$ P7
  ihave RL1 := (hold_close c _ _ _ _ g9 hg9) $$ RL1
  ihave S11 := (stored_as c (Memref.whole cc0_scratch4) (rowR _ inb_S3x256x1024_S1x256x1024_2_0_0) fullShare _ (l2 A c) ?_ _) $$ SL2
  · rfl
  ihave S11 := (lend A c (Memref.whole cc0_scratch4) _ inb_S3x256x1024_S1x256x1024_2_0_0 fullShare (l2 A c) 11 rfl rfl rfl) $$ S11
  iapply (curry5 (wp_copy A K c 11 11 rfl (dev_odd c 11 rfl (k0_dev14_eq c)) rfl rfl rfl rfl)) $$ HR HO G11 [D11] S11
  · iexact D11
  iintro ⟨HO, G11⟩
  sl_exec
  iapply (curry4 (wp_arrive A K c 10 12 ⟨by decide, by decide⟩ rfl (dst := dstM 10) (credit_dst 10))) $$ HR HL HO G10
  iintro ⟨HO, G10, RR1⟩
  ihave RR1 := (take A c (Memref.whole cc0_scratch3) _ inb_S4x256x1024_S1x256x1024_1_0_0 (r1 A (prv c)) 10 rfl rfl) $$ RR1
  ihave RR1 := (hold_open c _ _ _ _) $$ RR1
  icases RR1 with ⟨%g10, %hg10, RR1⟩
  ihave P2 := (hold_open c _ _ _ _) $$ P2
  icases P2 with ⟨%p2, %hp2, P2⟩
  sl_exec
  ihave P2 := (hold_close c _ _ _ _ p2 hp2) $$ P2
  ihave RR1 := (hold_close c _ _ _ _ g10 hg10) $$ RR1
  ihave S12 := (stored_as c (Memref.whole cc0_scratch2) (rowR _ inb_S4x256x1024_S1x256x1024_2_0_0) fullShare _ (r2 A c) ?_ _) $$ SR2
  · rfl
  ihave S12 := (lend A c (Memref.whole cc0_scratch2) _ inb_S4x256x1024_S1x256x1024_2_0_0 fullShare (r2 A c) 12 rfl rfl rfl) $$ S12
  iapply (curry5 (wp_copy A K c 12 12 rfl (dev_even c 12 rfl (k0_dev15_eq c)) rfl rfl rfl rfl)) $$ HR HO G12 [D12] S12
  · iexact D12
  iintro ⟨HO, G12⟩
  ihave X1 := (hold_open c _ _ _ _) $$ X1
  icases X1 with ⟨%f1, %hf1, X1⟩
  sl_exec
  ihave X1 := (hold_close c _ _ _ _ f1 hf1) $$ X1
  ihave P1 := (stored_as c (Memref.whole cc0_scratch1) (rect8 1 inb_S8x256x1024_S1x256x1024_1_0_0) fullShare _ (part A c 1) ?_ _) $$ P1
  · rfl
  iapply (curry4 (wp_arrive A K c 12 13 ⟨by decide, by decide⟩ rfl (dst := dstM 12) (credit_dst 12))) $$ HR HL HO G12
  iintro ⟨HO, G12, RR2⟩
  ihave RR2 := (take A c (Memref.whole cc0_scratch3) _ inb_S4x256x1024_S1x256x1024_2_0_0 (r2 A (prv c)) 12 rfl rfl) $$ RR2
  ihave RR2 := (hold_open c _ _ _ _) $$ RR2
  icases RR2 with ⟨%g12, %hg12, RR2⟩
  ihave P1 := (hold_open c _ _ _ _) $$ P1
  icases P1 with ⟨%p1, %hp1, P1⟩
  sl_exec
  ihave P1 := (hold_close c _ _ _ _ p1 hp1) $$ P1
  ihave RR2 := (hold_close c _ _ _ _ g12 hg12) $$ RR2
  ihave S13 := (stored_as c (Memref.whole cc0_scratch2) (rowR _ inb_S4x256x1024_S1x256x1024_3_0_0) fullShare _ (r3 A c) ?_ _) $$ SR3
  · rfl
  ihave S13 := (lend A c (Memref.whole cc0_scratch2) _ inb_S4x256x1024_S1x256x1024_3_0_0 fullShare (r3 A c) 13 rfl rfl rfl) $$ S13
  iapply (curry5 (wp_copy A K c 13 13 rfl (dev_even c 13 rfl (k0_dev16_eq c)) rfl rfl rfl rfl)) $$ HR HO G13 [D13] S13
  · iexact D13
  iintro ⟨HO, G13⟩
  sl_exec
  iapply (curry4 (wp_arrive A K c 11 14 ⟨by decide, by decide⟩ rfl (dst := dstM 11) (credit_dst 11))) $$ HR HL HO G11
  iintro ⟨HO, G11, RL2⟩
  ihave RL2 := (take A c (Memref.whole cc0_scratch5) _ inb_S3x256x1024_S1x256x1024_2_0_0 (l2 A (nxt c)) 11 rfl rfl) $$ RL2
  ihave RL2 := (hold_open c _ _ _ _) $$ RL2
  icases RL2 with ⟨%g11, %hg11, RL2⟩
  sl_exec
  iapply (curry4 (wp_arrive A K c 13 14 ⟨by decide, by decide⟩ rfl (dst := dstM 13) (credit_dst 13))) $$ HR HL HO G13
  iintro ⟨HO, G13, RR3⟩
  ihave RR3 := (take A c (Memref.whole cc0_scratch3) _ inb_S4x256x1024_S1x256x1024_3_0_0 (r3 A (prv c)) 13 rfl rfl) $$ RR3
  ihave RR3 := (hold_open c _ _ _ _) $$ RR3
  icases RR3 with ⟨%g13, %hg13, RR3⟩
  ihave P0 := (hold_open c _ _ _ _) $$ P0
  icases P0 with ⟨%p0, %hp0, P0⟩
  sl_exec
  ihave P0 := (hold_close c _ _ _ _ p0 hp0) $$ P0
  ihave RR3 := (hold_close c _ _ _ _ g13 hg13) $$ RR3
  ihave RL2 := (hold_close c _ _ _ _ g11 hg11) $$ RL2
  ihave Ho := (full_store c _ _ (outOf A c) ?_) $$ Ho
  · rfl
  iapply (curry4 (wp_back A K c 0 rfl (dst := srcM 0) (credit_src 0))) $$ HR HL HO G0
  iintro ⟨HO, G0, S0⟩
  sl_exec
  iapply (curry4 (wp_back A K c 1 rfl (dst := srcM 1) (credit_src 1))) $$ HR HL HO G1
  iintro ⟨HO, G1, S1⟩
  sl_exec
  iapply (curry4 (wp_back A K c 2 rfl (dst := srcM 2) (credit_src 2))) $$ HR HL HO G2
  iintro ⟨HO, G2, S2⟩
  sl_exec
  iapply (curry4 (wp_back A K c 3 rfl (dst := srcM 3) (credit_src 3))) $$ HR HL HO G3
  iintro ⟨HO, G3, S3⟩
  sl_exec
  iapply (curry4 (wp_back A K c 4 rfl (dst := srcM 4) (credit_src 4))) $$ HR HL HO G4
  iintro ⟨HO, G4, S4⟩
  sl_exec
  iapply (curry4 (wp_back A K c 5 rfl (dst := srcM 5) (credit_src 5))) $$ HR HL HO G5
  iintro ⟨HO, G5, S5⟩
  sl_exec
  iapply (curry4 (wp_back A K c 6 rfl (dst := srcM 6) (credit_src 6))) $$ HR HL HO G6
  iintro ⟨HO, G6, S6⟩
  sl_exec
  iapply (curry4 (wp_back A K c 7 rfl (dst := srcM 7) (credit_src 7))) $$ HR HL HO G7
  iintro ⟨HO, G7, S7⟩
  sl_exec
  iapply (curry4 (wp_back A K c 8 rfl (dst := srcM 8) (credit_src 8))) $$ HR HL HO G8
  iintro ⟨HO, G8, S8⟩
  sl_exec
  iapply (curry4 (wp_back A K c 9 rfl (dst := srcM 9) (credit_src 9))) $$ HR HL HO G9
  iintro ⟨HO, G9, S9⟩
  sl_exec
  iapply (curry4 (wp_back A K c 10 rfl (dst := srcM 10) (credit_src 10))) $$ HR HL HO G10
  iintro ⟨HO, G10, S10⟩
  sl_exec
  iapply (curry4 (wp_back A K c 11 rfl (dst := srcM 11) (credit_src 11))) $$ HR HL HO G11
  iintro ⟨HO, G11, S11⟩
  sl_exec
  iapply (curry4 (wp_back A K c 12 rfl (dst := srcM 12) (credit_src 12))) $$ HR HL HO G12
  iintro ⟨HO, G12, S12⟩

  iapply (curry4 (wp_back A K c 13 rfl (dst := srcM 13) (credit_src 13))) $$ HR HL HO G13
  iintro ⟨HO, G13, S13⟩
  simp only [Idealize.SL.Sem.Prog.bind_ret]
  ihave HO := (Entails.of_eq (congrArg (owing c) (Ox_end c))) $$ HO
  iapply (curry5 (wp_unit A K c (prv c) (dev_prv c _ (k0_dev17_eq c)) true true rfl (Oexit₁ c) (Oexit c) rfl rfl)) $$ HR HO Hep Rep []
  · rw [payload_exit]; iempintro
  iintro HO
  simp only [Idealize.SL.Sem.Prog.bind_ret]
  iapply (curry5 (wp_unit A K c (nxt c) (dev_nxt c _ (k0_dev18_eq c)) false true rfl 0 (Oexit₁ c) (zero_add _).symm rfl)) $$ HR HO Hen Ren []
  · rw [payload_exit]; iempintro
  iintro HO
  simp only [Idealize.SL.Sem.Prog.bind_ret]
  iapply (curry4 (wp_exit A K c rfl)) $$ HR HO Hce Hae
  iintro ⟨HO, Hae⟩
  simp only [Idealize.SL.Sem.Prog.bind_ret]
  iapply (wp_done c Kt)
  iapply HK
  unfold bodyPost
  isplitl [HO]; · iexact HO
  isplitl [Hab]; · iexact Hab
  isplitl [Hae]; · iexact Hae
  isplitl [G0 G1 G2 G3 G4 G5 G6 G7 G8 G9 G10 G11 G12 G13]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    iexact G13
  isplitl [S0 S1 S2 S3 S4 S5 S6 S7 S8 S9 S10 S11 S12 S13]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    iexact S13
  isplitl [Hx]; · iexact Hx
  isplitl [Hwq]; · iexact Hwq
  isplitl [Hwo]; · iexact Hwo
  isplitl [Ho]; · iexact Ho
  isplitl [Hkt]; · iexact Hkt
  isplitl [Hvt]; · iexact Hvt
  isplitl [Hk]; · iexact Hk
  isplitl [Hv]; · iexact Hv
  isplitl [Hc0]; · iexact Hc0
  isplitl [Hc1]; · iexact Hc1
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [RL0 RL1 RL2]
  · isplitl [RL0]; · iexact RL0
    isplitl [RL1]; · iexact RL1
    iexact RL2
  isplitl [RR0]; · iexact RR0
  isplitl [RR1]; · iexact RR1
  isplitl [RR2]; · iexact RR2
  iexact RR3

end Cert.KernelIdeal.Exchange

end
-- ==== Proof.Rows.lean ====
/-
# The scratch buffers, row by row

Each scratch buffer of `n` rows is entered whole at unknown contents and cut into its rows; at the end the rows, some of
them lent in shares to the copies and returned, are joined back into the whole buffer.
-/
module

public import proofs.«01_k».proof.Proof.Body
public import Idealize.ShloMosaic.Lib.Ring

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting and joining, for any family of rows -/

section Family
variable {s : Shape} {e : EltTy} {n : ℕ} (c : Dev nD) (M : Memref sig .tc .vmem s e) (hM : M.view.set = Finset.univ) (R : Fin n → Rect s)
  (hd : ∀ k k', k ≠ k' → Disjoint (R k).set (R k').set) (hc : ∀ i, ∃ k, i ∈ (R k).set)

include hd in
theorem rows_disjoint : ∀ k k', k ≠ k' → Disjoint (M.view.setOn (R k).set) (M.view.setOn (R k').set) := fun k k' h => by
  unfold View.setOn; exact (Finset.disjoint_map _).mpr (hd k k' h)

include hM hc in
theorem rows_cover : Finset.univ.biUnion (fun k => M.view.setOn (R k).set) = Finset.univ := by
  refine Finset.eq_univ_of_forall fun x => ?_
  have hx : x ∈ M.view.set := by rw [hM]; exact Finset.mem_univ x
  rw [← View.setOn_univ] at hx
  obtain ⟨i, -, rfl⟩ := Finset.mem_map.mp hx
  obtain ⟨k, hk⟩ := hc i
  exact Finset.mem_biUnion.mpr ⟨k, Finset.mem_univ k, M.view.mem_setOn.mpr hk⟩

end Family

/-- Blocks that part a buffer, from the whole at unknown contents; -/
theorem blocks_cut {ℓ : Loc nD τ sig} {n : ℕ} (I : Fin n → Finset (Idx ℓ)) (hd : ∀ b b', b ≠ b' → Disjoint (I b) (I b')) (hc : Finset.univ.biUnion I = Finset.univ) :
    (iprop(∃ f, ℓ ↦{fullShare} f) : sProp 𝕄) ⊢ bigSep Finset.univ fun k => iprop(∃ f, ℓ ↦[I k]{fullShare} f) := by
  refine exists_elim fun f => (Entails.of_eq (Ring.pointsTo_blocks I hd hc f)).trans (bigSep_mono fun k _ => ?_)
  show (ℓ ↦[I k]{fullShare} f : sProp 𝕄) ⊢ iprop(∃ f, ℓ ↦[I k]{fullShare} f)
  iintro H; iexists f; iexact H

/-- and back. -/
theorem blocks_join {ℓ : Loc nD τ sig} {n : ℕ} (I : Fin n → Finset (Idx ℓ)) (hd : ∀ b b', b ≠ b' → Disjoint (I b) (I b')) (hc : Finset.univ.biUnion I = Finset.univ)
    (f₀ : Buf (Elt F) ℓ) : (bigSep Finset.univ fun k => iprop(∃ f, ℓ ↦[I k]{fullShare} f)) ⊢ (iprop(∃ f, ℓ ↦{fullShare} f) : sProp 𝕄) :=
  Ring.pointsTo_blocks_join_exists I hd hc f₀

section Family
variable {s : Shape} {e : EltTy} {n : ℕ} (c : Dev nD) (M : Memref sig .tc .vmem s e) (hM : M.view.set = Finset.univ) (R : Fin n → Rect s)
  (hd : ∀ k k', k ≠ k' → Disjoint (R k).set (R k').set) (hc : ∀ i, ∃ k, i ∈ (R k).set)

include hM hd hc in
theorem rows_cut : (iprop(∃ f, M.view.loc (c : Thread nD τ) ↦{fullShare} f) : sProp 𝕄) ⊢ bigSep Finset.univ fun k => iprop(∃ f, held (F := F) c M (R k) fullShare f) :=
  blocks_cut (ℓ := M.view.loc (c : Thread nD τ)) (fun k => M.view.setOn (R k).set) (rows_disjoint M R hd) (rows_cover M hM R hc)

include hM hd hc in
theorem rows_join (f₀ : Buf (Elt F) (M.view.loc (c : Thread nD τ))) :
    (bigSep Finset.univ fun k => iprop(∃ f, held (F := F) c M (R k) fullShare f)) ⊢ (iprop(∃ f, M.view.loc (c : Thread nD τ) ↦{fullShare} f) : sProp 𝕄) :=
  blocks_join (ℓ := M.view.loc (c : Thread nD τ)) (fun k => M.view.setOn (R k).set) (rows_disjoint M R hd) (rows_cover M hM R hc) f₀

end Family

/-! ## One row -/

section Row
variable {s : Shape} {e : EltTy} (c : Dev nD) (M : Memref sig .tc .vmem s e) (R : Rect s) (q : PosShare TreeShare) (P : R.shape.Idx → Elt F e)

theorem hold_any : (hold c M R q P : sProp 𝕄) ⊢ iprop(∃ f, held (F := F) c M R q f) := by
  unfold hold; iintro ⟨%f, -, H⟩; iexists f; iexact H

theorem hold_join : iprop((∃ f, held (F := F) c M R q.left f) ∗ ∃ f, held (F := F) c M R q.right f) ⊢ (iprop(∃ f, held (F := F) c M R q f) : sProp 𝕄) := by
  iintro ⟨⟨%f, H⟩, ⟨%g, H'⟩⟩
  iapply (show iprop((held (F := F) c M R q.left f) ∗ (held (F := F) c M R q.right g)) ⊢ (iprop(∃ f, held (F := F) c M R q f) : sProp 𝕄) from
    pure_elim _ pointsTo_agree fun hv => by
      unfold held
      rw [pointsTo_congr (f := g) (g := f) (fun i hi => ((hv i (Finset.mem_inter.mpr ⟨hi, hi⟩)).1).symm)]
      refine (pointsTo_share (PosShare.mem_left_op_right q)).2.trans ?_
      iintro H; iexists f; iexact H)
  isplitl [H]; · iexact H
  iexact H'

/-- A row as the squeezed view a copy names. -/
theorem row_view {s' : Shape} (hr : ∀ a, R.stride a = 1) (hq : R.shape.Squeezes s') :
    (iprop(∃ f, held (F := F) c M R q f) : sProp 𝕄) ⊢ iprop(∃ X, owns (c : Thread nD τ) ((M.slice R hr).squeeze s' hq) q X) := by
  unfold held owns
  iintro ⟨%f, H⟩
  iexists _; iexists f
  isplitr; · ipureintro; rfl
  rw [row_set M R hr hq]; iexact H

theorem view_row {s' : Shape} (hr : ∀ a, R.stride a = 1) (hq : R.shape.Squeezes s') (X : s'.Idx → Elt F e) :
    (owns (c : Thread nD τ) ((M.slice R hr).squeeze s' hq) q X : sProp 𝕄) ⊢ iprop(∃ f, held (F := F) c M R q f) := by
  unfold held owns
  rw [row_set M R hr hq]
  iintro ⟨%f, -, H⟩
  iexists f; iexact H

end Row

/-! ## The rows of each buffer -/

theorem inb8 (k : Fin 8) : ∀ a, (![k.val, 0, 0] : Fin 3 → ℕ) a + S1x256x1024.size a ≤ S8x256x1024.size a := by revert k; decide
abbrev rows8 (k : Fin 8) : Rect S8x256x1024 := rect8 k.val (inb8 k)
theorem rows8_disjoint (k k' : Fin 8) (h : k ≠ k') : Disjoint (rows8 k).set (rows8 k').set :=
  Rect.unit_disjoint (0 : Fin 3) (by
    have : k.val ≠ k'.val := fun e => h (Fin.ext e)
    show k.val + 1 ≤ k'.val ∨ k'.val + 1 ≤ k.val
    omega)
theorem rows8_cover (i : S8x256x1024.Idx) : ∃ k, i ∈ (rows8 k).set := by
  refine ⟨i 0, Rect.mem_set_unit.mpr fun a => ?_⟩
  match a with
  | ⟨0, _⟩ => exact ⟨le_refl _, Nat.lt_succ_self _⟩
  | ⟨1, _⟩ => exact ⟨Nat.zero_le _, by rw [show (![((i 0 : Fin 8) : ℕ), 0, 0] : Fin 3 → ℕ) ⟨1, by decide⟩ = 0 from rfl, Nat.zero_add]; exact (i 1).isLt⟩
  | ⟨2, _⟩ => exact ⟨Nat.zero_le _, by rw [show (![((i 0 : Fin 8) : ℕ), 0, 0] : Fin 3 → ℕ) ⟨2, by decide⟩ = 0 from rfl, Nat.zero_add]; exact (i 2).isLt⟩
theorem inb4 (k : Fin 4) : ∀ a, (![k.val, 0, 0] : Fin 3 → ℕ) a + S1x256x1024.size a ≤ S4x256x1024.size a := by revert k; decide
abbrev rows4 (k : Fin 4) : Rect S4x256x1024 := rect4 k.val (inb4 k)
theorem rows4_disjoint (k k' : Fin 4) (h : k ≠ k') : Disjoint (rows4 k).set (rows4 k').set :=
  Rect.unit_disjoint (0 : Fin 3) (by
    have : k.val ≠ k'.val := fun e => h (Fin.ext e)
    show k.val + 1 ≤ k'.val ∨ k'.val + 1 ≤ k.val
    omega)
theorem rows4_cover (i : S4x256x1024.Idx) : ∃ k, i ∈ (rows4 k).set := by
  refine ⟨i 0, Rect.mem_set_unit.mpr fun a => ?_⟩
  match a with
  | ⟨0, _⟩ => exact ⟨le_refl _, Nat.lt_succ_self _⟩
  | ⟨1, _⟩ => exact ⟨Nat.zero_le _, by rw [show (![((i 0 : Fin 4) : ℕ), 0, 0] : Fin 3 → ℕ) ⟨1, by decide⟩ = 0 from rfl, Nat.zero_add]; exact (i 1).isLt⟩
  | ⟨2, _⟩ => exact ⟨Nat.zero_le _, by rw [show (![((i 0 : Fin 4) : ℕ), 0, 0] : Fin 3 → ℕ) ⟨2, by decide⟩ = 0 from rfl, Nat.zero_add]; exact (i 2).isLt⟩
theorem inb3 (k : Fin 3) : ∀ a, (![k.val, 0, 0] : Fin 3 → ℕ) a + S1x256x1024.size a ≤ S3x256x1024.size a := by revert k; decide
abbrev rows3 (k : Fin 3) : Rect S3x256x1024 := rect3 k.val (inb3 k)
theorem rows3_disjoint (k k' : Fin 3) (h : k ≠ k') : Disjoint (rows3 k).set (rows3 k').set :=
  Rect.unit_disjoint (0 : Fin 3) (by
    have : k.val ≠ k'.val := fun e => h (Fin.ext e)
    show k.val + 1 ≤ k'.val ∨ k'.val + 1 ≤ k.val
    omega)
theorem rows3_cover (i : S3x256x1024.Idx) : ∃ k, i ∈ (rows3 k).set := by
  refine ⟨i 0, Rect.mem_set_unit.mpr fun a => ?_⟩
  match a with
  | ⟨0, _⟩ => exact ⟨le_refl _, Nat.lt_succ_self _⟩
  | ⟨1, _⟩ => exact ⟨Nat.zero_le _, by rw [show (![((i 0 : Fin 3) : ℕ), 0, 0] : Fin 3 → ℕ) ⟨1, by decide⟩ = 0 from rfl, Nat.zero_add]; exact (i 1).isLt⟩
  | ⟨2, _⟩ => exact ⟨Nat.zero_le _, by rw [show (![((i 0 : Fin 3) : ℕ), 0, 0] : Fin 3 → ℕ) ⟨2, by decide⟩ = 0 from rfl, Nat.zero_add]; exact (i 2).isLt⟩
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- A buffer of 8 rows, entered whole, as its rows; and back. -/
theorem cut8 (c : Dev nD) (M : Memref sig .tc .vmem S8x256x1024 .bf16) (hM : M.view.set = Finset.univ) :
    (iprop(∃ f, M.view.loc (c : Thread nD τ) ↦{fullShare} f) : sProp 𝕄) ⊢ iprop((∃ f, held (F := F) c M (rect8 0 (by decide)) fullShare f) ∗ (∃ f, held (F := F) c M (rect8 1 (by decide)) fullShare f) ∗ (∃ f, held (F := F) c M (rect8 2 (by decide)) fullShare f) ∗ (∃ f, held (F := F) c M (rect8 3 (by decide)) fullShare f) ∗ (∃ f, held (F := F) c M (rect8 4 (by decide)) fullShare f) ∗ (∃ f, held (F := F) c M (rect8 5 (by decide)) fullShare f) ∗ (∃ f, held (F := F) c M (rect8 6 (by decide)) fullShare f) ∗ (∃ f, held (F := F) c M (rect8 7 (by decide)) fullShare f)) :=
  (rows_cut c M hM rows8 rows8_disjoint rows8_cover).trans (Entails.of_eq (bigSep_fin8 _))
theorem join8 (c : Dev nD) (M : Memref sig .tc .vmem S8x256x1024 .bf16) (hM : M.view.set = Finset.univ) :
    iprop((∃ f, held (F := F) c M (rect8 0 (by decide)) fullShare f) ∗ (∃ f, held (F := F) c M (rect8 1 (by decide)) fullShare f) ∗ (∃ f, held (F := F) c M (rect8 2 (by decide)) fullShare f) ∗ (∃ f, held (F := F) c M (rect8 3 (by decide)) fullShare f) ∗ (∃ f, held (F := F) c M (rect8 4 (by decide)) fullShare f) ∗ (∃ f, held (F := F) c M (rect8 5 (by decide)) fullShare f) ∗ (∃ f, held (F := F) c M (rect8 6 (by decide)) fullShare f) ∗ (∃ f, held (F := F) c M (rect8 7 (by decide)) fullShare f)) ⊢ (iprop(∃ f, M.view.loc (c : Thread nD τ) ↦{fullShare} f) : sProp 𝕄) := by
  iintro ⟨⟨%f, H⟩, R⟩
  iapply ((Entails.of_eq (bigSep_fin8 (fun k => iprop(∃ f, held (F := F) c M (rows8 k) fullShare f))).symm).trans (rows_join c M hM rows8 rows8_disjoint rows8_cover f))
  isplitl [H]
  · iexists f; iexact H
  iexact R

/-- A buffer of 8 rows, entered whole, as its rows; and back. -/
theorem cut8f (c : Dev nD) (M : Memref sig .tc .vmem S8x256x1024 .f32) (hM : M.view.set = Finset.univ) :
    (iprop(∃ f, M.view.loc (c : Thread nD τ) ↦{fullShare} f) : sProp 𝕄) ⊢ iprop((∃ f, held (F := F) c M (rect8 0 (by decide)) fullShare f) ∗ (∃ f, held (F := F) c M (rect8 1 (by decide)) fullShare f) ∗ (∃ f, held (F := F) c M (rect8 2 (by decide)) fullShare f) ∗ (∃ f, held (F := F) c M (rect8 3 (by decide)) fullShare f) ∗ (∃ f, held (F := F) c M (rect8 4 (by decide)) fullShare f) ∗ (∃ f, held (F := F) c M (rect8 5 (by decide)) fullShare f) ∗ (∃ f, held (F := F) c M (rect8 6 (by decide)) fullShare f) ∗ (∃ f, held (F := F) c M (rect8 7 (by decide)) fullShare f)) :=
  (rows_cut c M hM rows8 rows8_disjoint rows8_cover).trans (Entails.of_eq (bigSep_fin8 _))
theorem join8f (c : Dev nD) (M : Memref sig .tc .vmem S8x256x1024 .f32) (hM : M.view.set = Finset.univ) :
    iprop((∃ f, held (F := F) c M (rect8 0 (by decide)) fullShare f) ∗ (∃ f, held (F := F) c M (rect8 1 (by decide)) fullShare f) ∗ (∃ f, held (F := F) c M (rect8 2 (by decide)) fullShare f) ∗ (∃ f, held (F := F) c M (rect8 3 (by decide)) fullShare f) ∗ (∃ f, held (F := F) c M (rect8 4 (by decide)) fullShare f) ∗ (∃ f, held (F := F) c M (rect8 5 (by decide)) fullShare f) ∗ (∃ f, held (F := F) c M (rect8 6 (by decide)) fullShare f) ∗ (∃ f, held (F := F) c M (rect8 7 (by decide)) fullShare f)) ⊢ (iprop(∃ f, M.view.loc (c : Thread nD τ) ↦{fullShare} f) : sProp 𝕄) := by
  iintro ⟨⟨%f, H⟩, R⟩
  iapply ((Entails.of_eq (bigSep_fin8 (fun k => iprop(∃ f, held (F := F) c M (rows8 k) fullShare f))).symm).trans (rows_join c M hM rows8 rows8_disjoint rows8_cover f))
  isplitl [H]
  · iexists f; iexact H
  iexact R

/-- A buffer of 4 rows, entered whole, as its rows; and back. -/
theorem cut4 (c : Dev nD) (M : Memref sig .tc .vmem S4x256x1024 .bf16) (hM : M.view.set = Finset.univ) :
    (iprop(∃ f, M.view.loc (c : Thread nD τ) ↦{fullShare} f) : sProp 𝕄) ⊢ iprop((∃ f, held (F := F) c M (rect4 0 (by decide)) fullShare f) ∗ (∃ f, held (F := F) c M (rect4 1 (by decide)) fullShare f) ∗ (∃ f, held (F := F) c M (rect4 2 (by decide)) fullShare f) ∗ (∃ f, held (F := F) c M (rect4 3 (by decide)) fullShare f)) :=
  (rows_cut c M hM rows4 rows4_disjoint rows4_cover).trans (Entails.of_eq (bigSep_fin4 _))
theorem join4 (c : Dev nD) (M : Memref sig .tc .vmem S4x256x1024 .bf16) (hM : M.view.set = Finset.univ) :
    iprop((∃ f, held (F := F) c M (rect4 0 (by decide)) fullShare f) ∗ (∃ f, held (F := F) c M (rect4 1 (by decide)) fullShare f) ∗ (∃ f, held (F := F) c M (rect4 2 (by decide)) fullShare f) ∗ (∃ f, held (F := F) c M (rect4 3 (by decide)) fullShare f)) ⊢ (iprop(∃ f, M.view.loc (c : Thread nD τ) ↦{fullShare} f) : sProp 𝕄) := by
  iintro ⟨⟨%f, H⟩, R⟩
  iapply ((Entails.of_eq (bigSep_fin4 (fun k => iprop(∃ f, held (F := F) c M (rows4 k) fullShare f))).symm).trans (rows_join c M hM rows4 rows4_disjoint rows4_cover f))
  isplitl [H]
  · iexists f; iexact H
  iexact R

/-- A buffer of 3 rows, entered whole, as its rows; and back. -/
theorem cut3 (c : Dev nD) (M : Memref sig .tc .vmem S3x256x1024 .bf16) (hM : M.view.set = Finset.univ) :
    (iprop(∃ f, M.view.loc (c : Thread nD τ) ↦{fullShare} f) : sProp 𝕄) ⊢ iprop((∃ f, held (F := F) c M (rect3 0 (by decide)) fullShare f) ∗ (∃ f, held (F := F) c M (rect3 1 (by decide)) fullShare f) ∗ (∃ f, held (F := F) c M (rect3 2 (by decide)) fullShare f)) :=
  (rows_cut c M hM rows3 rows3_disjoint rows3_cover).trans (Entails.of_eq (bigSep_fin3 _))
theorem join3 (c : Dev nD) (M : Memref sig .tc .vmem S3x256x1024 .bf16) (hM : M.view.set = Finset.univ) :
    iprop((∃ f, held (F := F) c M (rect3 0 (by decide)) fullShare f) ∗ (∃ f, held (F := F) c M (rect3 1 (by decide)) fullShare f) ∗ (∃ f, held (F := F) c M (rect3 2 (by decide)) fullShare f)) ⊢ (iprop(∃ f, M.view.loc (c : Thread nD τ) ↦{fullShare} f) : sProp 𝕄) := by
  iintro ⟨⟨%f, H⟩, R⟩
  iapply ((Entails.of_eq (bigSep_fin3 (fun k => iprop(∃ f, held (F := F) c M (rows3 k) fullShare f))).symm).trans (rows_join c M hM rows3 rows3_disjoint rows3_cover f))
  isplitl [H]
  · iexists f; iexact H
  iexact R

end Cert.KernelIdeal.Exchange

end
-- ==== Proof.Scratch.lean ====
/-
# Entering and leaving with the scratch buffers

The eight scratch buffers the region enters with, cut into the rows that the neighbours' copies land in and those the body
works on; and everything the body leaves, joined back into the eight buffers.
-/
module

public import proofs.«01_k».proof.Proof.Rows

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F)

section Row
variable {n : Fin 3 → ℕ} (c : Dev nD) (M : Memref sig .tc .vmem ⟨3, n⟩ .bf16) (o : Fin 3 → ℕ)
  (h : ∀ a, o a + S1x256x1024.size a ≤ n a) (i : Fin 14)

theorem to_landing (hd : dstM i = rowM M o h) :
    iprop((∃ f, held (F := F) c M (rowR o h) fullShare f) ∗ reached ER (rCell c i) 0) ⊢ landing (F := F) c i := by
  unfold landing; rw [hd]
  exact sep_mono_left (row_view c M (rowR o h) fullShare (fun _ => rfl) squeezes_S1x256x1024_S256x1024)

theorem sent_row (q : PosShare TreeShare) (hs : srcM i = rowM M o h) (hq : share i = q) :
    sendP A c i ⊢ iprop(∃ f, held (F := F) c M (rowR o h) q f) := by
  unfold sendP; rw [hs, hq]
  exact view_row c M (rowR o h) q (fun _ => rfl) squeezes_S1x256x1024_S256x1024 _

end Row

/-- The scratch buffers, and the rows the body starts from. -/
def scratch (c : Dev nD) : sProp 𝕄 :=
  iprop((∃ f, pt (F := F) c cc0_scratch0 f) ∗ (∃ f, pt (F := F) c cc0_scratch1 f) ∗ (∃ f, pt (F := F) c cc0_scratch2 f) ∗ (∃ f, pt (F := F) c cc0_scratch3 f)
    ∗ (∃ f, pt (F := F) c cc0_scratch4 f) ∗ (∃ f, pt (F := F) c cc0_scratch5 f) ∗ (∃ f, pt (F := F) c cc0_scratch6 f) ∗ (∃ f, pt (F := F) c cc0_scratch7 f))

def rows (c : Dev nD) : sProp 𝕄 :=
  iprop(xgA (F := F) c 0 (by decide) ∗ (partA (F := F) c 0 (by decide) ∗ partA (F := F) c 1 (by decide) ∗ partA (F := F) c 2 (by decide) ∗ partA (F := F) c 3 (by decide) ∗ partA (F := F) c 4 (by decide) ∗ partA (F := F) c 5 (by decide) ∗ partA (F := F) c 6 (by decide) ∗ partA (F := F) c 7 (by decide))
    ∗ (sbrA (F := F) c 0 (by decide) ∗ sbrA (F := F) c 1 (by decide) ∗ sbrA (F := F) c 2 (by decide) ∗ sbrA (F := F) c 3 (by decide)) ∗ (sblA (F := F) c 0 (by decide) ∗ sblA (F := F) c 1 (by decide) ∗ sblA (F := F) c 2 (by decide))
    ∗ (∃ f, pt (F := F) c cc0_scratch6 f) ∗ (∃ f, pt (F := F) c cc0_scratch7 f))

set_option maxHeartbeats 2000000 in
theorem enter (c : Dev nD) :
    iprop(scratch c ∗ (□ reached ER (exitCell c) 0) ∗ bigSep Finset.univ fun i => reached ER (rCell c i) 0) ⊢ (iprop(landings c ∗ rows c) : sProp 𝕄) := by
  rw [bigSep_fin14]
  unfold scratch rows landings
  iintro ⟨⟨B0, B1, B2, B3, B4, B5, B6, B7⟩, #Re, Q0, Q1, Q2, Q3, Q4, Q5, Q6, Q7, Q8, Q9, Q10, Q11, Q12, Q13⟩
  ihave B0 := (cut8 c (Memref.whole cc0_scratch0) (View.set_whole _)) $$ B0
  icases B0 with ⟨X0, X1, X2, X3, X4, X5, X6, X7⟩
  ihave B1 := (cut8f c (Memref.whole cc0_scratch1) (View.set_whole _)) $$ B1
  icases B1 with ⟨P0, P1, P2, P3, P4, P5, P6, P7⟩
  ihave B2 := (cut4 c (Memref.whole cc0_scratch2) (View.set_whole _)) $$ B2
  icases B2 with ⟨SR0, SR1, SR2, SR3⟩
  ihave B3 := (cut4 c (Memref.whole cc0_scratch3) (View.set_whole _)) $$ B3
  icases B3 with ⟨RR0, RR1, RR2, RR3⟩
  ihave B4 := (cut3 c (Memref.whole cc0_scratch4) (View.set_whole _)) $$ B4
  icases B4 with ⟨SL0, SL1, SL2⟩
  ihave B5 := (cut3 c (Memref.whole cc0_scratch5) (View.set_whole _)) $$ B5
  icases B5 with ⟨RL0, RL1, RL2⟩
  isplitl [X7 Q0 X6 Q2 X5 Q4 X4 Q6 RR0 Q8 RR1 Q10 RR2 Q12 RR3 Q13 X1 Q1 X2 Q3 X3 Q5 RL0 Q7 RL1 Q9 RL2 Q11]
  · isplitl [X7 Q0 X6 Q2 X5 Q4 X4 Q6 RR0 Q8 RR1 Q10 RR2 Q12 RR3 Q13]
    · isplitr
      · iexact Re
      isplitl [X7 Q0]
      · iapply (to_landing c (Memref.whole cc0_scratch0) ![7, 0, 0] (by decide) 0 rfl); isplitl [X7]; · iexact X7
        iexact Q0
      isplitl [X6 Q2]
      · iapply (to_landing c (Memref.whole cc0_scratch0) ![6, 0, 0] (by decide) 2 rfl); isplitl [X6]; · iexact X6
        iexact Q2
      isplitl [X5 Q4]
      · iapply (to_landing c (Memref.whole cc0_scratch0) ![5, 0, 0] (by decide) 4 rfl); isplitl [X5]; · iexact X5
        iexact Q4
      isplitl [X4 Q6]
      · iapply (to_landing c (Memref.whole cc0_scratch0) ![4, 0, 0] (by decide) 6 rfl); isplitl [X4]; · iexact X4
        iexact Q6
      isplitl [RR0 Q8]
      · iapply (to_landing c (Memref.whole cc0_scratch3) ![0, 0, 0] (by decide) 8 rfl); isplitl [RR0]; · iexact RR0
        iexact Q8
      isplitl [RR1 Q10]
      · iapply (to_landing c (Memref.whole cc0_scratch3) ![1, 0, 0] (by decide) 10 rfl); isplitl [RR1]; · iexact RR1
        iexact Q10
      isplitl [RR2 Q12]
      · iapply (to_landing c (Memref.whole cc0_scratch3) ![2, 0, 0] (by decide) 12 rfl); isplitl [RR2]; · iexact RR2
        iexact Q12
      iapply (to_landing c (Memref.whole cc0_scratch3) ![3, 0, 0] (by decide) 13 rfl); isplitl [RR3]; · iexact RR3
      iexact Q13
    isplitr
    · iexact Re
    isplitl [X1 Q1]
    · iapply (to_landing c (Memref.whole cc0_scratch0) ![1, 0, 0] (by decide) 1 rfl); isplitl [X1]; · iexact X1
      iexact Q1
    isplitl [X2 Q3]
    · iapply (to_landing c (Memref.whole cc0_scratch0) ![2, 0, 0] (by decide) 3 rfl); isplitl [X2]; · iexact X2
      iexact Q3
    isplitl [X3 Q5]
    · iapply (to_landing c (Memref.whole cc0_scratch0) ![3, 0, 0] (by decide) 5 rfl); isplitl [X3]; · iexact X3
      iexact Q5
    isplitl [RL0 Q7]
    · iapply (to_landing c (Memref.whole cc0_scratch5) ![0, 0, 0] (by decide) 7 rfl); isplitl [RL0]; · iexact RL0
      iexact Q7
    isplitl [RL1 Q9]
    · iapply (to_landing c (Memref.whole cc0_scratch5) ![1, 0, 0] (by decide) 9 rfl); isplitl [RL1]; · iexact RL1
      iexact Q9
    iapply (to_landing c (Memref.whole cc0_scratch5) ![2, 0, 0] (by decide) 11 rfl); isplitl [RL2]; · iexact RL2
    iexact Q11
  isplitl [X0]
  · iexact X0
  isplitl [P0 P1 P2 P3 P4 P5 P6 P7]
  · isplitl [P0]
    · iexact P0
    isplitl [P1]
    · iexact P1
    isplitl [P2]
    · iexact P2
    isplitl [P3]
    · iexact P3
    isplitl [P4]
    · iexact P4
    isplitl [P5]
    · iexact P5
    isplitl [P6]
    · iexact P6
    iexact P7
  isplitl [SR0 SR1 SR2 SR3]
  · isplitl [SR0]
    · iexact SR0
    isplitl [SR1]
    · iexact SR1
    isplitl [SR2]
    · iexact SR2
    iexact SR3
  isplitl [SL0 SL1 SL2]
  · isplitl [SL0]
    · iexact SL0
    isplitl [SL1]
    · iexact SL1
    iexact SL2
  isplitl [B6]
  · iexact B6
  iexact B7

/-- What the body leaves of the scratch buffers. -/
def leftovers (c : Dev nD) : sProp 𝕄 :=
  iprop((sendP A c 0 ∗ sendP A c 1 ∗ sendP A c 2 ∗ sendP A c 3 ∗ sendP A c 4 ∗ sendP A c 5 ∗ sendP A c 6 ∗ sendP A c 7 ∗ sendP A c 8 ∗ sendP A c 9 ∗ sendP A c 10 ∗ sendP A c 11 ∗ sendP A c 12 ∗ sendP A c 13)
    ∗ (hold c (Memref.whole cc0_scratch0) (rect8 0 inb_S8x256x1024_S1x256x1024_0_0_0) fullShare.right.right (blk A (sh 0 c))
      ∗ hold c (Memref.whole cc0_scratch0) (rect8 1 inb_S8x256x1024_S1x256x1024_1_0_0) fullShare.right (blk A (sh 1 c))
      ∗ hold c (Memref.whole cc0_scratch0) (rect8 2 inb_S8x256x1024_S1x256x1024_2_0_0) fullShare.right (blk A (sh 2 c))
      ∗ hold c (Memref.whole cc0_scratch0) (rect8 3 inb_S8x256x1024_S1x256x1024_3_0_0) fullShare (blk A (sh 3 c))
      ∗ hold c (Memref.whole cc0_scratch0) (rect8 4 inb_S8x256x1024_S1x256x1024_4_0_0) fullShare (blk A (sh 4 c))
      ∗ hold c (Memref.whole cc0_scratch0) (rect8 5 inb_S8x256x1024_S1x256x1024_5_0_0) fullShare.right (blk A (sh 5 c))
      ∗ hold c (Memref.whole cc0_scratch0) (rect8 6 inb_S8x256x1024_S1x256x1024_6_0_0) fullShare.right (blk A (sh 6 c))
      ∗ hold c (Memref.whole cc0_scratch0) (rect8 7 inb_S8x256x1024_S1x256x1024_7_0_0) fullShare.right (blk A (sh 7 c)))
    ∗ (hold c (Memref.whole cc0_scratch1) (rect8 0 inb_S8x256x1024_S1x256x1024_0_0_0) fullShare (part A c 0)
      ∗ hold c (Memref.whole cc0_scratch1) (rect8 1 inb_S8x256x1024_S1x256x1024_1_0_0) fullShare (part A c 1)
      ∗ hold c (Memref.whole cc0_scratch1) (rect8 2 inb_S8x256x1024_S1x256x1024_2_0_0) fullShare (part A c 2)
      ∗ hold c (Memref.whole cc0_scratch1) (rect8 3 inb_S8x256x1024_S1x256x1024_3_0_0) fullShare (part A c 3)
      ∗ hold c (Memref.whole cc0_scratch1) (rect8 4 inb_S8x256x1024_S1x256x1024_4_0_0) fullShare (part A c 4)
      ∗ hold c (Memref.whole cc0_scratch1) (rect8 5 inb_S8x256x1024_S1x256x1024_5_0_0) fullShare (part A c 5)
      ∗ hold c (Memref.whole cc0_scratch1) (rect8 6 inb_S8x256x1024_S1x256x1024_6_0_0) fullShare (part A c 6)
      ∗ hold c (Memref.whole cc0_scratch1) (rect8 7 inb_S8x256x1024_S1x256x1024_7_0_0) fullShare (part A c 7))
    ∗ (hold c (Memref.whole cc0_scratch5) (rect3 0 inb_S3x256x1024_S1x256x1024_0_0_0) fullShare (l0 A (nxt c))
      ∗ hold c (Memref.whole cc0_scratch5) (rect3 1 inb_S3x256x1024_S1x256x1024_1_0_0) fullShare (l1 A (nxt c))
      ∗ hold c (Memref.whole cc0_scratch5) (rect3 2 inb_S3x256x1024_S1x256x1024_2_0_0) fullShare (l2 A (nxt c)))
    ∗ (hold c (Memref.whole cc0_scratch3) (rect4 0 inb_S4x256x1024_S1x256x1024_0_0_0) fullShare (r0 A (prv c))
      ∗ hold c (Memref.whole cc0_scratch3) (rect4 1 inb_S4x256x1024_S1x256x1024_1_0_0) fullShare (r1 A (prv c))
      ∗ hold c (Memref.whole cc0_scratch3) (rect4 2 inb_S4x256x1024_S1x256x1024_2_0_0) fullShare (r2 A (prv c))
      ∗ hold c (Memref.whole cc0_scratch3) (rect4 3 inb_S4x256x1024_S1x256x1024_3_0_0) fullShare (r3 A (prv c))))

set_option maxHeartbeats 2000000 in
theorem leave (c : Dev nD) : iprop(leftovers A c ∗ (∃ f, pt c cc0_scratch6 f) ∗ ∃ f, pt c cc0_scratch7 f) ⊢ (scratch c : sProp 𝕄) := by
  unfold leftovers scratch
  iintro ⟨⟨⟨S0, S1, S2, S3, S4, S5, S6, S7, S8, S9, S10, S11, S12, S13⟩, ⟨X0, X1, X2, X3, X4, X5, X6, X7⟩, ⟨P0, P1, P2, P3, P4, P5, P6, P7⟩, ⟨RL0, RL1, RL2⟩, RR0, RR1, RR2, RR3⟩, B6, B7⟩
  ihave S0 := (sent_row A c (Memref.whole cc0_scratch0) ![0, 0, 0] (by decide) 0 fullShare.left rfl rfl) $$ S0
  ihave S1 := (sent_row A c (Memref.whole cc0_scratch0) ![0, 0, 0] (by decide) 1 fullShare.right.left rfl rfl) $$ S1
  ihave S2 := (sent_row A c (Memref.whole cc0_scratch0) ![7, 0, 0] (by decide) 2 fullShare.left rfl rfl) $$ S2
  ihave S3 := (sent_row A c (Memref.whole cc0_scratch0) ![1, 0, 0] (by decide) 3 fullShare.left rfl rfl) $$ S3
  ihave S4 := (sent_row A c (Memref.whole cc0_scratch0) ![6, 0, 0] (by decide) 4 fullShare.left rfl rfl) $$ S4
  ihave S5 := (sent_row A c (Memref.whole cc0_scratch0) ![2, 0, 0] (by decide) 5 fullShare.left rfl rfl) $$ S5
  ihave S6 := (sent_row A c (Memref.whole cc0_scratch0) ![5, 0, 0] (by decide) 6 fullShare.left rfl rfl) $$ S6
  ihave SL0 := (sent_row A c (Memref.whole cc0_scratch4) ![0, 0, 0] (by decide) 7 fullShare rfl rfl) $$ S7
  ihave SR0 := (sent_row A c (Memref.whole cc0_scratch2) ![0, 0, 0] (by decide) 8 fullShare rfl rfl) $$ S8
  ihave SL1 := (sent_row A c (Memref.whole cc0_scratch4) ![1, 0, 0] (by decide) 9 fullShare rfl rfl) $$ S9
  ihave SR1 := (sent_row A c (Memref.whole cc0_scratch2) ![1, 0, 0] (by decide) 10 fullShare rfl rfl) $$ S10
  ihave SL2 := (sent_row A c (Memref.whole cc0_scratch4) ![2, 0, 0] (by decide) 11 fullShare rfl rfl) $$ S11
  ihave SR2 := (sent_row A c (Memref.whole cc0_scratch2) ![2, 0, 0] (by decide) 12 fullShare rfl rfl) $$ S12
  ihave SR3 := (sent_row A c (Memref.whole cc0_scratch2) ![3, 0, 0] (by decide) 13 fullShare rfl rfl) $$ S13
  ihave X0 := (hold_any c _ _ _ _) $$ X0
  ihave X1 := (hold_any c _ _ _ _) $$ X1
  ihave X2 := (hold_any c _ _ _ _) $$ X2
  ihave X3 := (hold_any c _ _ _ _) $$ X3
  ihave X4 := (hold_any c _ _ _ _) $$ X4
  ihave X5 := (hold_any c _ _ _ _) $$ X5
  ihave X6 := (hold_any c _ _ _ _) $$ X6
  ihave X7 := (hold_any c _ _ _ _) $$ X7
  ihave P0 := (hold_any c _ _ _ _) $$ P0
  ihave P1 := (hold_any c _ _ _ _) $$ P1
  ihave P2 := (hold_any c _ _ _ _) $$ P2
  ihave P3 := (hold_any c _ _ _ _) $$ P3
  ihave P4 := (hold_any c _ _ _ _) $$ P4
  ihave P5 := (hold_any c _ _ _ _) $$ P5
  ihave P6 := (hold_any c _ _ _ _) $$ P6
  ihave P7 := (hold_any c _ _ _ _) $$ P7
  ihave RL0 := (hold_any c _ _ _ _) $$ RL0
  ihave RL1 := (hold_any c _ _ _ _) $$ RL1
  ihave RL2 := (hold_any c _ _ _ _) $$ RL2
  ihave RR0 := (hold_any c _ _ _ _) $$ RR0
  ihave RR1 := (hold_any c _ _ _ _) $$ RR1
  ihave RR2 := (hold_any c _ _ _ _) $$ RR2
  ihave RR3 := (hold_any c _ _ _ _) $$ RR3
  ihave X0 := (hold_join c (Memref.whole cc0_scratch0) (rect8 0 (by decide)) fullShare.right) $$ [S1 X0]
  · isplitl [S1]
    · iexact S1
    iexact X0
  ihave X0 := (hold_join c (Memref.whole cc0_scratch0) (rect8 0 (by decide)) fullShare) $$ [S0 X0]
  · isplitl [S0]
    · iexact S0
    iexact X0
  ihave X7 := (hold_join c (Memref.whole cc0_scratch0) (rect8 7 (by decide)) fullShare) $$ [S2 X7]
  · isplitl [S2]
    · iexact S2
    iexact X7
  ihave X1 := (hold_join c (Memref.whole cc0_scratch0) (rect8 1 (by decide)) fullShare) $$ [S3 X1]
  · isplitl [S3]
    · iexact S3
    iexact X1
  ihave X6 := (hold_join c (Memref.whole cc0_scratch0) (rect8 6 (by decide)) fullShare) $$ [S4 X6]
  · isplitl [S4]
    · iexact S4
    iexact X6
  ihave X2 := (hold_join c (Memref.whole cc0_scratch0) (rect8 2 (by decide)) fullShare) $$ [S5 X2]
  · isplitl [S5]
    · iexact S5
    iexact X2
  ihave X5 := (hold_join c (Memref.whole cc0_scratch0) (rect8 5 (by decide)) fullShare) $$ [S6 X5]
  · isplitl [S6]
    · iexact S6
    iexact X5
  isplitl [X0 X1 X2 X3 X4 X5 X6 X7]
  · iapply (join8 c (Memref.whole cc0_scratch0) (View.set_whole _))
    isplitl [X0]
    · iexact X0
    isplitl [X1]
    · iexact X1
    isplitl [X2]
    · iexact X2
    isplitl [X3]
    · iexact X3
    isplitl [X4]
    · iexact X4
    isplitl [X5]
    · iexact X5
    isplitl [X6]
    · iexact X6
    iexact X7
  isplitl [P0 P1 P2 P3 P4 P5 P6 P7]
  · iapply (join8f c (Memref.whole cc0_scratch1) (View.set_whole _))
    isplitl [P0]
    · iexact P0
    isplitl [P1]
    · iexact P1
    isplitl [P2]
    · iexact P2
    isplitl [P3]
    · iexact P3
    isplitl [P4]
    · iexact P4
    isplitl [P5]
    · iexact P5
    isplitl [P6]
    · iexact P6
    iexact P7
  isplitl [SR0 SR1 SR2 SR3]
  · iapply (join4 c (Memref.whole cc0_scratch2) (View.set_whole _))
    isplitl [SR0]
    · iexact SR0
    isplitl [SR1]
    · iexact SR1
    isplitl [SR2]
    · iexact SR2
    iexact SR3
  isplitl [RR0 RR1 RR2 RR3]
  · iapply (join4 c (Memref.whole cc0_scratch3) (View.set_whole _))
    isplitl [RR0]
    · iexact RR0
    isplitl [RR1]
    · iexact RR1
    isplitl [RR2]
    · iexact RR2
    iexact RR3
  isplitl [SL0 SL1 SL2]
  · iapply (join3 c (Memref.whole cc0_scratch4) (View.set_whole _))
    isplitl [SL0]
    · iexact SL0
    isplitl [SL1]
    · iexact SL1
    iexact SL2
  isplitl [RL0 RL1 RL2]
  · iapply (join3 c (Memref.whole cc0_scratch5) (View.set_whole _))
    isplitl [RL0]
    · iexact RL0
    isplitl [RL1]
    · iexact RL1
    iexact RL2
  isplitl [B6]
  · iexact B6
  iexact B7

end Cert.KernelIdeal.Exchange

end
-- ==== Proof.Ghost.lean ====
/-
# Opening and closing the exchange's cells

The barrier's cell is open from the launch; the other cells are the kernel's own semaphores, opened when the region is
entered and closed when its body ends, so that every counter is at zero on the way out.
-/
module

public import proofs.«01_k».proof.Proof.Scratch
public import Idealize.ShloMosaic.Lib.Rounds.Family
public import Idealize.ShloMosaic.Lib.Pipeline.RegionTalk

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Key → ℕ)

/-- The kernel's own semaphores: the last one, both ends of each copy, and the two that local copies wait on. -/
abbrev Own : Type := (Unit ⊕ (Fin 14 ⊕ Fin 14)) ⊕ Fin 2
def cpS : Fin 2 → DmaSem sig := ![32, 33]
def osem : Own → SemLoc sig
  | .inl (.inl _) => .reg exitS
  | .inl (.inr (.inl i)) => .dma (sS i)
  | .inl (.inr (.inr i)) => .dma (rS i)
  | .inr j => .dma (cpS j)

theorem own_facts : Pipeline.OwnSemFacts spec0 osem := by decide

/-- The counters of the kernel's own semaphores, at zero. -/
theorem ownSems_eq (c : Dev nD) : (Pipeline.ownSems0 (Ix := Unit) (Name := ℕ) (U := UU) (Lvl := ℕ) (Val := Elt F) osem c : sProp 𝕄)
    = iprop((semVal (exitCell c) 0 ∗ (bigSep Finset.univ fun i => semVal (sCell c i) 0) ∗ bigSep Finset.univ fun i => semVal (rCell c i) 0)
      ∗ semVal ((c : Thread nD τ), .dma (cpS 0)) 0 ∗ semVal ((c : Thread nD τ), .dma (cpS 1)) 0) := by
  unfold Pipeline.ownSems0
  rw [bigSep_univ_sum, bigSep_univ_sum, bigSep_univ_sum]
  rw [bigSep_univ_eq_bigSepL [()] (by decide) (by decide), bigSep_univ_eq_bigSepL [(0 : Fin 2), 1] (by decide) (by decide)]
  rfl

/-- What the launch gives a device, under the names it chose, -/
def ghost (c : Dev nD) : sProp 𝕄 :=
  iprop((dutyTok ER (barCell (prv c)) 0 true ∗ dutyTok ER (barCell (nxt c)) 0 false ∗ dutyTok ER (exitCell (prv c)) 0 true ∗ dutyTok ER (exitCell (nxt c)) 0 false
      ∗ reached ER (barCell (prv c)) 0 ∗ reached ER (barCell (nxt c)) 0 ∗ atPos ER (barCell c) 0 ∅ 0)
    ∗ (openTok ER (exitCell c) ∗ (bigSep Finset.univ fun i => openTok ER (sCell c i)) ∗ bigSep Finset.univ fun i => openTok ER (rCell c i))
    ∗ ((bigSep Finset.univ fun i => dutyTok ER (sCell c i) 0 false) ∗ bigSep Finset.univ fun i => dutyTok ER (rCell (peer c i) i) 0 false)
    ∗ (cred (tallyAt (barCell c) () 2) ∗ cred (tallyAt (exitCell c) () 2) ∗ bigSep Finset.univ fun i => cred (tallyAt (rCell c i) () N)))
def Tk (c : Dev nD) : sProp 𝕄 := iprop(∃ K, records A K ∗ ghost c)
/-- and what it holds once its own cells are open. -/
def opened (c : Dev nD) : sProp 𝕄 :=
  iprop(levAts L lv ∗ units c ∗ gears c ∗ ((□ reached ER (exitCell c) 0) ∗ bigSep Finset.univ fun i => reached ER (rCell c i) 0)
    ∗ semVal ((c : Thread nD τ), .dma (cpS 0)) 0 ∗ semVal ((c : Thread nD τ), .dma (cpS 1)) 0)
def Xk (c : Dev nD) : sProp 𝕄 := iprop(∃ K, records A K ∗ opened c)
def Yk (c : Dev nD) : sProp 𝕄 := semVal (barCell c) 0

theorem gears_eq (c : Dev nD) : gears c = (bigSep Finset.univ fun i => gear c i : sProp 𝕄) := by
  rw [bigSep_fin14]; rfl

theorem records_s (c : Dev nD) (Φ : Fin 14 → sProp 𝕄) : iprop(records A K ∗ bigSep Finset.univ Φ)
    ⊢ bigSep Finset.univ fun i => iprop(cellInv ER (Rd A) (K (c, .inr (.inl i))) (sCell c i) ∗ Φ i) :=
  bigSep_with_persistent (R := records A K) fun i _ => sep_mono_left (records_at A K (c, .inr (.inl i)))
theorem records_r (c : Dev nD) (Φ : Fin 14 → sProp 𝕄) : iprop(records A K ∗ bigSep Finset.univ Φ)
    ⊢ bigSep Finset.univ fun i => iprop(cellInv ER (Rd A) (K (c, .inr (.inr i))) (rCell c i) ∗ Φ i) :=
  bigSep_with_persistent (R := records A K) fun i _ => sep_mono_left (records_at A K (c, .inr (.inr i)))

theorem gears_intro (c : Dev nD) :
    iprop((bigSep Finset.univ fun i => dutyTok ER (sCell c i) 0 false) ∗ (bigSep Finset.univ fun i => dutyTok ER (rCell (peer c i) i) 0 false)
      ∗ (bigSep Finset.univ fun i => reached ER (sCell c i) 0) ∗ (bigSep Finset.univ fun i => atPos ER (sCell c i) 0 ∅ 0)
      ∗ (bigSep Finset.univ fun i => atPos ER (rCell c i) 0 ∅ 0) ∗ bigSep Finset.univ fun i => cred (tallyAt (rCell c i) () N)) ⊢ (gears c : sProp 𝕄) := by
  rw [gears_eq]
  unfold gear
  simp only [bigSep_sep']
  exact Entails.refl _

theorem hopen (c : Dev nD) : iprop(Tk A c ∗ Pipeline.ownSems0 osem c ∗ levAts L lv) ⊢ (|={Set.univ}=> Xk A c : sProp 𝕄) := by
  rw [ownSems_eq]
  unfold Tk Xk ghost opened units
  iintro ⟨⟨%K, #HR, ⟨Hbp, Hbn, Hep, Hen, Rbp, Rbn, Hab⟩, ⟨Oe, Os, Or⟩, ⟨Ts, Tr⟩, Cb, Ce, Cr⟩, ⟨⟨Ve, Vs, Vr⟩, V0, V1⟩, #HL⟩
  imod (Rounds.cell_open ER (Rd A) (g := exitCell c) (Set.mem_univ (K (c, .inl true)))) $$ [Oe Ve] with ⟨Hae, #Re⟩
  · isplitr
    · iapply (records_at A K (c, .inl true)); iexact HR
    isplitl [Oe]
    · iexact Oe
    iexact Ve
  ihave Os := (records_s A K c _) $$ [Os]
  · isplitr
    · iexact HR
    iexact Os
  ihave Or := (records_r A K c _) $$ [Or]
  · isplitr
    · iexact HR
    iexact Or
  imod (Rounds.cells_open ER (Rd A) Finset.univ (fun i => sCell c i) (fun i => K (c, .inr (.inl i))) (fun _ _ => Set.mem_univ _)) $$ [Os Vs] with Hs
  · isplitl [Os]
    · iexact Os
    iexact Vs
  imod (Rounds.cells_open ER (Rd A) Finset.univ (fun i => rCell c i) (fun i => K (c, .inr (.inr i))) (fun _ _ => Set.mem_univ _)) $$ [Or Vr] with Hr
  · isplitl [Or]
    · iexact Or
    iexact Vr
  ihave Hs := (Entails.of_eq (bigSep_sep' Finset.univ (fun i => atPos ER (sCell c i) 0 ∅ 0) (fun i => reached ER (sCell c i) 0))) $$ Hs
  ihave Hr := (Entails.of_eq (bigSep_sep' Finset.univ (fun i => atPos ER (rCell c i) 0 ∅ 0) (fun i => reached ER (rCell c i) 0))) $$ Hr
  icases Hs with ⟨As, Rs⟩
  icases Hr with ⟨Ar, Rr⟩
  imodintro
  iexists K
  isplitr
  · iexact HR
  isplitr
  · iexact HL
  isplitl [Hbp Hbn Hep Hen Rbp Rbn Hab Hae Cb Ce]
  · isplitl [Hbp]
    · iexact Hbp
    isplitl [Hbn]
    · iexact Hbn
    isplitl [Hep]
    · iexact Hep
    isplitl [Hen]
    · iexact Hen
    isplitl [Rbp]
    · iexact Rbp
    isplitl [Rbn]
    · iexact Rbn
    isplitl [Hab]
    · iexact Hab
    isplitl [Hae]
    · iexact Hae
    isplitl [Cb]
    · iexact Cb
    iexact Ce
  isplitl [Ts Tr Rs As Ar Cr]
  · iapply (gears_intro c)
    isplitl [Ts]
    · iexact Ts
    isplitl [Tr]
    · iexact Tr
    isplitl [Rs]
    · iexact Rs
    isplitl [As]
    · iexact As
    isplitl [Ar]
    · iexact Ar
    iexact Cr
  isplitl [Rr]
  · isplitr
    · imodintro; iexact Re
    iexact Rr
  isplitl [V0]
  · iexact V0
  iexact V1

/-- At the end of the body every cell's round is over: the cells close at zero. -/
theorem hshut (c : Dev nD) :
    iprop(records A K ∗ atPos ER (barCell c) 1 ∅ 0 ∗ atPos ER (exitCell c) 1 ∅ 0 ∗ (bigSep Finset.univ fun i => closed c i)
      ∗ semVal ((c : Thread nD τ), .dma (cpS 0)) 0 ∗ semVal ((c : Thread nD τ), .dma (cpS 1)) 0)
    ⊢ (|={Set.univ}=> (Pipeline.ownSems0 osem c ∗ Yk c) : sProp 𝕄) := by
  rw [ownSems_eq]
  unfold closed Yk
  rw [bigSep_sep']
  iintro ⟨#HR, Hb, He, ⟨Hs, Hr⟩, V0, V1⟩
  imod (Rounds.cell_close ER (Rd A) (κ := K (c, .inl false)) (g := barCell c) (Set.mem_univ _) (fun h => h) (R := 1) (duties_later A (barCell c))) $$ [Hb] with Vb
  · isplitr
    · iapply (records_at A K (c, .inl false)); iexact HR
    iexact Hb
  imod (Rounds.cell_close ER (Rd A) (κ := K (c, .inl true)) (g := exitCell c) (Set.mem_univ _) (fun h => h) (R := 1) (duties_later A (exitCell c))) $$ [He] with Ve
  · isplitr
    · iapply (records_at A K (c, .inl true)); iexact HR
    iexact He
  ihave Hs := (records_s A K c _) $$ [Hs]
  · isplitr
    · iexact HR
    iexact Hs
  ihave Hr := (records_r A K c _) $$ [Hr]
  · isplitr
    · iexact HR
    iexact Hr
  imod (Rounds.cells_close ER (Rd A) Finset.univ (fun i => sCell c i) (fun i => K (c, .inr (.inl i))) (fun _ _ => Set.mem_univ _) (fun _ _ h => h) (fun _ => 1)
    (fun i _ => duties_later A (sCell c i))) $$ Hs with Vs
  imod (Rounds.cells_close ER (Rd A) Finset.univ (fun i => rCell c i) (fun i => K (c, .inr (.inr i))) (fun _ _ => Set.mem_univ _) (fun _ _ h => h) (fun _ => 1)
    (fun i _ => duties_later A (rCell c i))) $$ Hr with Vr
  imodintro
  isplitr [Vb]
  · isplitl [Ve Vs Vr]
    · isplitl [Ve]
      · iexact Ve
      isplitl [Vs]
      · iexact Vs
      iexact Vr
    isplitl [V0]
    · iexact V0
    iexact V1
  iexact Vb

end Cert.KernelIdeal.Exchange

end
-- ==== Proof.Deal.lean ====
/-
# What the launch deals

The cells and duty tokens of all the devices, made at once from one launch element and handed to the devices that use
them: a device pays at its neighbours' cells, so the tokens of those cells go round the ring. Also what a device may
expect from its neighbours, from what each of them owes.
-/
module

public import proofs.«01_k».proof.Proof.Ghost

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem semOf_inj : Function.Injective semOf := by decide
theorem kcell_inj : Function.Injective kcell := fun x y h =>
  Prod.ext (congrArg (fun g : GSem nD τ sig => g.1.1) h) (semOf_inj (congrArg Prod.snd h))

/-- The kernel's own cells of a device. -/
abbrev Shut : Type := Unit ⊕ (Fin 14 ⊕ Fin 14)
def keyOf : Shut → Key
  | .inl _ => .inl true
  | .inr i => .inr i
theorem keyOf_inj : Function.Injective keyOf := by decide
theorem keyOf_ne : ∀ k, keyOf k ≠ .inl false := by decide

def barEmb : Dev nD ↪ GSem nD τ sig := ⟨fun c => barCell c, fun _ _ h => congrArg (fun g : GSem nD τ sig => g.1.1) h⟩
def shutEmb : Dev nD × Shut ↪ GSem nD τ sig := ⟨fun x => kcell (x.1, keyOf x.2), fun x y h => by
  have h' : (x.1, keyOf x.2) = (y.1, keyOf y.2) := kcell_inj h
  exact Prod.ext (congrArg (fun z : Dev nD × Key => z.1) h') (keyOf_inj (congrArg (fun z : Dev nD × Key => z.2) h'))⟩
def cellEmb : Dev nD × Key ↪ GSem nD τ sig := ⟨kcell, kcell_inj⟩

/-- The barriers' cells, open from the start; the kernel's own, opened when the region is entered. -/
abbrev barCells : Finset (GSem nD τ sig) := Finset.univ.map barEmb
abbrev shutCells : Finset (GSem nD τ sig) := Finset.univ.map shutEmb

theorem disjoint_cells : Disjoint (barCells : Finset (GSem nD τ sig)) shutCells := by
  rw [Finset.disjoint_left]
  rintro g h₁ h₂
  obtain ⟨c, -, rfl⟩ := Finset.mem_map.mp h₁
  obtain ⟨x, -, h⟩ := Finset.mem_map.mp h₂
  exact keyOf_ne x.2 (congrArg Prod.snd (kcell_inj (show kcell (x.1, keyOf x.2) = kcell (c, .inl false) from h)))

theorem all_cells : (barCells ∪ shutCells : Finset (GSem nD τ sig)) = Finset.univ.map cellEmb := by
  ext g
  simp only [Finset.mem_union, Finset.mem_map, Finset.mem_univ, true_and]
  constructor
  · rintro (⟨c, rfl⟩ | ⟨x, rfl⟩)
    · exact ⟨(c, .inl false), rfl⟩
    · exact ⟨(x.1, keyOf x.2), rfl⟩
  · rintro ⟨⟨c, (_ | _) | k⟩, rfl⟩
    · exact .inl ⟨c, rfl⟩
    · exact .inr ⟨(c, .inl ()), rfl⟩
    · exact .inr ⟨(c, .inr k), rfl⟩

/-! ## The tokens -/

/-- A device's cells' tokens: two units each at the barrier and at the last cell, one payment at each end of a copy. -/
abbrev Tok : Type := (Bool × Bool) ⊕ (Fin 14 ⊕ Fin 14)
def tokKey : Tok → Key × Bool
  | .inl p => (.inl p.1, p.2)
  | .inr i => (.inr i, false)
theorem tokKey_inj : Function.Injective tokKey := by decide
def tokEmb : Dev nD × Tok ↪ GSem nD τ sig × ℕ × Bool :=
  ⟨fun x => (kcell (x.1, (tokKey x.2).1), 0, (tokKey x.2).2), fun x y h => by
    have h₁ : (x.1, (tokKey x.2).1) = (y.1, (tokKey y.2).1) := kcell_inj (congrArg (fun t : GSem nD τ sig × ℕ × Bool => t.1) h)
    exact Prod.ext (congrArg (fun z : Dev nD × Key => z.1) h₁) (tokKey_inj (Prod.ext (congrArg (fun z : Dev nD × Key => z.2) h₁) (congrArg (fun t : GSem nD τ sig × ℕ × Bool => t.2.2) h)))⟩
abbrev theToks : Finset (GSem nD τ sig × ℕ × Bool) := Finset.univ.map tokEmb

/-- The tokens of a device's own cells, -/
def toks (c : Dev nD) : sProp 𝕄 :=
  iprop(((dutyTok ER (barCell c) 0 false ∗ dutyTok ER (barCell c) 0 true) ∗ (dutyTok ER (exitCell c) 0 false ∗ dutyTok ER (exitCell c) 0 true))
    ∗ ((bigSep Finset.univ fun i => dutyTok ER (sCell c i) 0 false) ∗ bigSep Finset.univ fun i => dutyTok ER (rCell c i) 0 false))
/-- and the tokens it pays with. -/
def pays (c : Dev nD) : sProp 𝕄 :=
  iprop(((dutyTok ER (barCell (nxt c)) 0 false ∗ dutyTok ER (barCell (prv c)) 0 true) ∗ (dutyTok ER (exitCell (nxt c)) 0 false ∗ dutyTok ER (exitCell (prv c)) 0 true))
    ∗ ((bigSep Finset.univ fun i => dutyTok ER (sCell c i) 0 false) ∗ bigSep Finset.univ fun i => dutyTok ER (rCell (peer c i) i) 0 false))

theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

theorem toks_eq : bigSep theToks (fun x => (dutyTok ER x.1 x.2.1 x.2.2 : sProp 𝕄)) = bigSep Finset.univ fun c : Dev nD => toks c := by
  unfold theToks; rw [bigSep_map, bigSep_univ_prod]
  refine bigSep_congr fun c _ => ?_
  rw [bigSep_univ_sum, bigSep_univ_sum, bigSep_univ_prod, bigSep_bool, bigSep_bool, bigSep_bool]
  rfl

/-- The arriving ends of all the devices' copies, by the device that sends. -/
def sending : Dev nD × Fin 14 ≃ Dev nD × Fin 14 where
  toFun x := (peer x.1 x.2, x.2)
  invFun x := (source x.1 x.2, x.2)
  left_inv x := Prod.ext (source_peer x.1 x.2) rfl
  right_inv x := Prod.ext (peer_source x.1 x.2) rfl

theorem arriving_around (Φ : Dev nD → Fin 14 → sProp 𝕄) :
    (bigSep Finset.univ fun c : Dev nD => bigSep Finset.univ fun i => Φ c i) = bigSep Finset.univ fun c : Dev nD => bigSep Finset.univ fun i => Φ (peer c i) i := by
  rw [← bigSep_univ_prod (fun x : Dev nD × Fin 14 => Φ x.1 x.2), bigSep_univ_equiv sending (fun x : Dev nD × Fin 14 => Φ x.1 x.2), bigSep_univ_prod]
  rfl

theorem toks_around : (bigSep Finset.univ fun c : Dev nD => (toks c : sProp 𝕄)) = bigSep Finset.univ fun c : Dev nD => pays c := by
  unfold toks pays
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (exitCell c) 0 false : sProp 𝕄)),
    bigSep_univ_equiv ring.symm (fun c : Dev nD => (dutyTok ER (exitCell c) 0 true : sProp 𝕄)),
    arriving_around (fun c i => (dutyTok ER (rCell c i) 0 false : sProp 𝕄))]
  rfl

/-! ## What each device may expect -/

/-- What a device owes at a cell, by cell. -/
theorem owed_at (d c : Dev nD) (k : Key) : O₀ d (kcell (c, k)) () =
    (((if (c, k) = (nxt d, .inl true) then 1 else 0) + (if (c, k) = (prv d, .inl true) then 1 else 0)
      + ∑ i, if (c, k) = (peer d i, .inr (.inr i)) then N else 0)
      + (if (c, k) = (nxt d, .inl false) then 1 else 0)) + (if (c, k) = (prv d, .inl false) then 1 else 0) := by
  have hk (x : Dev nD × Key) (n : ℕ) : (tallyAt (kcell x) () n : CellTallies nD τ sig Unit) (kcell (c, k)) () = if (c, k) = x then n else 0 := by
    rw [tallyAt_apply]
    by_cases h : (c, k) = x
    · rw [if_pos h, if_pos ⟨congrArg kcell h, rfl⟩]
    · rw [if_neg h, if_neg fun h' => h (kcell_inj h'.1)]
  unfold O₀ O₁ Ox Oexit Oexit₁
  simp only [Pi.add_apply, Finsupp.add_apply, Finset.sum_apply, Finsupp.finset_sum_apply]
  rw [Finset.filter_true_of_mem fun i _ => Nat.zero_le _]
  refine congrArg₂ (· + ·) (congrArg₂ (· + ·) (congrArg₂ (· + ·) (congrArg₂ (· + ·) (hk (nxt d, .inl true) 1) (hk (prv d, .inl true) 1))
    (Finset.sum_congr rfl fun i _ => hk (peer d i, .inr (.inr i)) N)) (hk (nxt d, .inl false) 1)) (hk (prv d, .inl false) 1)

theorem eq_nxt (c d : Dev nD) : c = nxt d ↔ d = prv c := ⟨fun h => by rw [h]; exact (prv_nxt d).symm, fun h => by rw [h]; exact (nxt_prv c).symm⟩
theorem eq_prv (c d : Dev nD) : c = prv d ↔ d = nxt c := ⟨fun h => by rw [h]; exact (nxt_prv d).symm, fun h => by rw [h]; exact (prv_nxt c).symm⟩
theorem eq_peer (c d : Dev nD) (i : Fin 14) : c = peer d i ↔ d = source c i :=
  ⟨fun h => by rw [h]; exact (source_peer d i).symm, fun h => by rw [h]; exact (peer_source c i).symm⟩

/-- What all the devices together owe at one of device `c`'s cells. -/
def expected : Key → ℕ
  | .inl _ => 2
  | .inr (.inl _) => 0
  | .inr (.inr _) => N
theorem owed_sum (c : Dev nD) (k : Key) : ∑ d : Dev nD, O₀ d (kcell (c, k)) () = expected k := by
  have one (e : Dev nD) (n : ℕ) : (∑ d : Dev nD, if d = e then n else 0) = n := by
    rw [Finset.sum_ite_eq' Finset.univ e fun _ => n, if_pos (Finset.mem_univ _)]
  have hn (n : ℕ) : (∑ d : Dev nD, if c = nxt d then n else 0) = n := by simp only [eq_nxt c]; exact one _ n
  have hp (n : ℕ) : (∑ d : Dev nD, if c = prv d then n else 0) = n := by simp only [eq_prv c]; exact one _ n
  have hs (i : Fin 14) (n : ℕ) : (∑ d : Dev nD, if c = peer d i then n else 0) = n := by simp only [eq_peer c]; exact one _ n
  simp only [owed_at, Finset.sum_add_distrib, Prod.mk.injEq]
  rcases k with (_ | _) | i | i
  · simp only [Sum.inl.injEq, reduceCtorEq, _root_.and_true, _root_.and_false, if_false, Finset.sum_const_zero, zero_add, hn, hp]
    rfl
  · simp only [Sum.inl.injEq, reduceCtorEq, _root_.and_true, _root_.and_false, if_false, Finset.sum_const_zero, add_zero, hn, hp]
    rfl
  · simp only [Sum.inr.injEq, reduceCtorEq, _root_.and_true, _root_.and_false, if_false, Finset.sum_const_zero, add_zero]
    rfl
  · have h (d : Dev nD) : (∑ j : Fin 14, if c = peer d j ∧ i = j then N else 0) = if c = peer d i then N else 0 := by
      rw [Finset.sum_eq_single i (fun j _ hj => if_neg fun h => hj h.2.symm) fun h => absurd (Finset.mem_univ _) h]
      simp only [_root_.and_true]
    simp only [Sum.inr.injEq, reduceCtorEq, _root_.and_false, if_false, Finset.sum_const_zero, zero_add, add_zero, h, hs]
    rfl

theorem launch_cell (c : Dev nD) (k : Key) : tallyOn (kcell (c, k)) (launchCredit (Pipeline.owing O₀) 0 (kcell (c, k)))
    = (tallyAt (kcell (c, k)) () (expected k) : CellTallies nD τ sig Unit) := by
  unfold tallyAt; refine congrArg _ (Finsupp.ext fun u => ?_); cases u
  rw [Pipeline.launchCredit_owing, Finsupp.single_eq_same, owed_sum]

def semEmb : Key ↪ SemLoc sig := ⟨semOf, semOf_inj⟩
theorem creds (c : Dev nD) : (Pipeline.launchCred O₀ c : sProp 𝕄)
    ⊢ iprop(cred (tallyAt (barCell c) () 2) ∗ cred (tallyAt (exitCell c) () 2) ∗ bigSep Finset.univ fun i => cred (tallyAt (rCell c i) () N)) := by
  unfold Pipeline.launchCred
  refine (bigSep_subset (Finset.subset_univ (Finset.univ.map semEmb))).trans ?_
  rw [bigSep_map, show (bigSep Finset.univ fun k : Key => (cred (tallyOn ((c : Thread nD τ), semEmb k) (launchCredit (Pipeline.owing O₀) 0 ((c : Thread nD τ), semEmb k))) : sProp 𝕄))
      = bigSep Finset.univ fun k : Key => cred (tallyAt (kcell (c, k)) () (expected k)) from bigSep_congr fun k _ => congrArg cred (launch_cell c k),
    bigSep_univ_sum, bigSep_univ_sum, bigSep_bool]
  show iprop((cred (tallyAt (barCell c) () 2) ∗ cred (tallyAt (exitCell c) () 2)) ∗ (bigSep Finset.univ fun i => cred (tallyAt (sCell c i) () 0))
    ∗ bigSep Finset.univ fun i => cred (tallyAt (rCell c i) () N)) ⊢ (_ : sProp 𝕄)
  iintro ⟨⟨H1, H2⟩, -, H3⟩
  isplitl [H1]
  · iexact H1
  isplitl [H2]
  · iexact H2
  iexact H3

end Cert.KernelIdeal.Exchange

end
-- ==== Proof.Talk.lean ====
/-
# The body between the region's ends

What the region holds on entry is what the body starts from, and what the body leaves closes into what the region hands on.
-/
module

public import proofs.«01_k».proof.Proof.Ghost

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Ins F) (K : Dev nD × Key → ℕ)

/-- The buffers around the body: the inputs' staging buffers, the output's, and the two operands left in place. -/
def inputs (c : Dev nD) : sProp 𝕄 :=
  iprop(pt c cc0_stg0_0 (A.x c) ∗ pt c cc0_stg1_0 (A.wq c) ∗ pt c cc0_stg2_0 (A.wo c) ∗ pt c main_v19 (A.kt c) ∗ pt c main_v29 (A.vt c))

theorem make_pre (c : Dev nD) : iprop(records A K ∗ opened c ∗ owing c (O₀ c) ∗ inputs A c ∗ (∃ f, pt c cc0_stg3_0 f) ∗ scratch c) ⊢ bodyPre A K c := by
  unfold opened inputs bodyPre
  iintro ⟨#HR, ⟨#HL, Hu, Hg, HRe, V0, V1⟩, HO, ⟨Hx, Hwq, Hwo, Hkt, Hvt⟩, Ho, Hs⟩
  ihave Hr := (enter c) $$ [Hs HRe]
  · isplitl [Hs]
    · iexact Hs
    iexact HRe
  unfold rows
  icases Hr with ⟨Hl, X0, HP, HSR, HSL, B6, B7⟩
  isplitr
  · iexact HR
  isplitr
  · iexact HL
  isplitl [HO]
  · iexact HO
  isplitl [Hu]
  · iexact Hu
  isplitl [Hg]
  · iexact Hg
  isplitl [Hl]
  · iexact Hl
  isplitl [Hx]
  · iexact Hx
  isplitl [Hwq]
  · iexact Hwq
  isplitl [Hwo]
  · iexact Hwo
  isplitl [Ho]
  · iexact Ho
  isplitl [Hkt]
  · iexact Hkt
  isplitl [Hvt]
  · iexact Hvt
  isplitl [X0]
  · iexact X0
  isplitl [HP]
  · iexact HP
  isplitl [HSR]
  · iexact HSR
  isplitl [HSL]
  · iexact HSL
  isplitl [B6]
  · iexact B6
  isplitl [B7]
  · iexact B7
  isplitl [V0]
  · iexact V0
  iexact V1

theorem split_post (c : Dev nD) : iprop(records A K ∗ bodyPost A c)
    ⊢ (|={Set.univ}=> (owing c 0 ∗ (Pipeline.ownSems0 osem c ∗ Yk c) ∗ inputs A c ∗ pt c cc0_stg3_0 (outOf A c) ∗ scratch c) : sProp 𝕄) := by
  unfold bodyPost inputs
  iintro ⟨#HR, HO, Hb, He, Hc, Hs, Hx, Hwq, Hwo, Ho, Hkt, Hvt, B6, B7, V0, V1, H0, H1, H5, H3⟩
  ihave Hsc := (leave A c) $$ [Hs B6 B7 H0 H1 H5 H3]
  · unfold leftovers
    isplitl [Hs H0 H1 H5 H3]
    · isplitl [Hs]
      · iexact Hs
      isplitl [H0]
      · iexact H0
      isplitl [H1]
      · iexact H1
      isplitl [H5]
      · iexact H5
      iexact H3
    isplitl [B6]
    · iexists _; iexact B6
    iexists _; iexact B7
  imod (hshut A K c) $$ [Hb He Hc V0 V1] with HY
  · rw [bigSep_fin14]
    isplitr
    · iexact HR
    isplitl [Hb]
    · iexact Hb
    isplitl [He]
    · iexact He
    isplitl [Hc]
    · iexact Hc
    isplitl [V0]
    · iexact V0
    iexact V1
  imodintro
  isplitl [HO]
  · iexact HO
  isplitl [HY]
  · iexact HY
  isplitl [Hx Hwq Hwo Hkt Hvt]
  · isplitl [Hx]
    · iexact Hx
    isplitl [Hwq]
    · iexact Hwq
    isplitl [Hwo]
    · iexact Hwo
    isplitl [Hkt]
    · iexact Hkt
    iexact Hvt
  isplitl [Ho]
  · iexact Ho
  iexact Hsc

end Cert.KernelIdeal.Exchange

end
-- ==== Proof.Region.lean ====
/-
# The region

The one region of the program, between the two host stretches: entered from the arrays the first stretch leaves, left with
the output array at the value the body computes from what all the devices entered with.
-/
module

public import proofs.«01_k».proof.Proof.Talk
public import proofs.«01_k».proof.Proof.Gen.KernelIdeal.Regions
public import proofs.«01_k».proof.Proof.Gen.KernelIdeal.Points

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What the devices enter the region with, -/
def insA : Ins F where
  x c := V1 m c main_v6
  wq c := V1 m c main_v9
  kt c := V1 m c main_v19
  vt c := V1 m c main_v29
  wo c := V1 m c main_v30
/-- and what the region leaves: the output array, everything else as it was. -/
def V2' (c : Dev nD) : Valuation τ sig (Elt F) := Function.update (V1 m c) main_v31 (outOf (insA m) c)
def outs : Outs (F := F) := fun _ r c => V2' m c r

theorem V2'_out (c : Dev nD) : V2' m c main_v31 = outOf (insA m) c := by unfold V2'; rw [Function.update_self]
theorem V2'_of (c : Dev nD) (b : DevRef τ sig) (h : b ≠ Proc.devRef .tc main_v31) : V2' m c b = V1 m c b := by
  unfold V2'; rw [Function.update_of_ne h]

theorem V2_eq (c : Dev nD) : V2 m (outs m) c = V2' m c := by
  have h₁ : outs m 2 main_v31 c = outOf (insA m) c := V2'_out m c
  have h₂ : outs m 2 main_v19 c = V1 m c main_v19 :=
    V2'_of m c _ (StableHlo.devRef_ne_of_ne (by decide) : (Proc.devRef .tc main_v19 : DevRef τ sig) ≠ Proc.devRef .tc main_v31)
  have h₃ : outs m 2 main_v29 c = V1 m c main_v29 :=
    V2'_of m c _ (StableHlo.devRef_ne_of_ne (by decide) : (Proc.devRef .tc main_v29 : DevRef τ sig) ≠ Proc.devRef .tc main_v31)
  have e₂ : Function.update (V2' m c) (Proc.devRef .tc main_v19) (V1 m c main_v19) = V2' m c := by
    rw [Function.update_eq_self_iff]; exact h₂.symm
  have e₃ : Function.update (V2' m c) (Proc.devRef .tc main_v29) (V1 m c main_v29) = V2' m c := by
    rw [Function.update_eq_self_iff]; exact h₃.symm
  unfold V2
  rw [h₁, h₂, h₃]
  show Function.update (Function.update (V2' m c) (Proc.devRef .tc main_v19) (V1 m c main_v19)) (Proc.devRef .tc main_v29) (V1 m c main_v29) = V2' m c
  rw [e₂, e₃]

/-- The two operands the body reads in place. -/
def Hs : Finset (DevRef τ sig) := {Proc.devRef .tc main_v19, Proc.devRef .tc main_v29}
/-- The unscoped buffers that no window stages. -/
def Sr : Finset (DevRef τ sig) := Pipeline.ucRefs τ sig \ Pipeline.arrRefs spec0
theorem Hs_sub : Hs ⊆ Sr := by decide
theorem held_Hs (c : Dev nD) (W : Valuation τ sig (Elt F)) : (StableHlo.held (c : Thread nD τ) Hs W : sProp 𝕄)
    = iprop(pt c main_v19 (W main_v19) ∗ pt c main_v29 (W main_v29)) := by
  unfold StableHlo.held
  rw [bigSep_eq_bigSepL_of_eq [Proc.devRef .tc main_v19, Proc.devRef .tc main_v29] (by decide) (by decide)]
  rfl

/-- What rides through the region with the device: entering, and leaving. -/
def Φ₀ (c : Dev nD) : sProp 𝕄 :=
  iprop(Pipeline.scopedRest spec0 c ∗ (∃ r, prngReg c r) ∗ StableHlo.held (c : Thread nD τ) Hs (V1 m c) ∗ Xk (insA m) c)
def Φ₁ (c : Dev nD) : sProp 𝕄 :=
  iprop(Pipeline.scopedRest spec0 c ∗ (∃ r, prngReg c r) ∗ StableHlo.held (c : Thread nD τ) Hs (V2' m c) ∗ Pipeline.ownSems0 osem c ∗ Yk c)

def dats (p : Fin 1) (c : Dev nD) : Dat τ (Elt F) Unit ℕ UU ℕ (cfgs p) c where
  A w := V1 m c (Proc.devRef .tc (Pipeline.arrRef spec0 w))
  after w _ := match w with
    | ⟨0, _⟩ => (insA m).x c
    | ⟨1, _⟩ => (insA m).wq c
    | ⟨2, _⟩ => (insA m).wo c
    | ⟨3, _⟩ => outOf (insA m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev dat (c : Dev nD) : Dat τ (Elt F) Unit ℕ UU ℕ cfg0 c := dats m 0 c

theorem share_eq (c : Dev nD) (w : Fin cfg0.W) : (dat m c).share w = fullShare := by unfold Dat.share; split <;> rfl

theorem owesAt_intro (c : Dev nD) (t : Fin (cfg0.N + 1)) (O : CellTallies nD τ sig Unit) (h0 : (dat m c).owed t = O) :
    (owing c O : sProp 𝕄) ⊢ ((dat m c).owesAt () t : sProp 𝕄) := by
  unfold owing Dat.owesAt Pipeline.owesWithin Dat.bound; rw [h0]
  iintro ⟨%W, HO⟩; iexists W; isplitr
  · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ owing c O := by
  unfold owing Dat.owesAt Pipeline.owesWithin; rw [h0]
  iintro ⟨%W, -, HO⟩; iexists W; iexact HO

/-- A staging buffer at contents `X`. -/
def stg (c : Dev nD) (b : Ref sig .tc) (X : b.ty.Contents (Elt F)) : sProp 𝕄 := iprop(∃ f : Buf (Elt F) ((c : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]
theorem stg_in (c : Dev nD) (b : Ref sig .tc) (X : b.ty.Contents (Elt F)) : (pt c b X : sProp 𝕄) ⊢ stg c b X := by
  unfold stg; iintro H; iexists X; isplitr
  · ipureintro; rfl
  iexact H
theorem stg_out (c : Dev nD) (b : Ref sig .tc) (X : b.ty.Contents (Elt F)) : stg c b X ⊢ (pt c b X : sProp 𝕄) := by
  unfold stg; iintro ⟨%f, %hf, H⟩; subst hf; iexact H

/-- A window over a whole array has its index as its place. -/
theorem place_0 (j : ((cfg0.win 0).xblock (cfg0.grid.coords t0_0)).Idx) : ((cfg0.win 0).blk t0_0).view.emb j = j :=
  funext fun a => Fin.ext (by
    show 0 * _ + 1 * (j a).val = (j a).val
    rw [Nat.zero_mul, Nat.zero_add, Nat.one_mul])
theorem place_1 (j : ((cfg0.win 1).xblock (cfg0.grid.coords t0_0)).Idx) : ((cfg0.win 1).blk t0_0).view.emb j = j :=
  funext fun a => Fin.ext (by
    show 0 * _ + 1 * (j a).val = (j a).val
    rw [Nat.zero_mul, Nat.zero_add, Nat.one_mul])
theorem place_2 (j : ((cfg0.win 2).xblock (cfg0.grid.coords t0_0)).Idx) : ((cfg0.win 2).blk t0_0).view.emb j = j :=
  funext fun a => Fin.ext (by
    show 0 * _ + 1 * (j a).val = (j a).val
    rw [Nat.zero_mul, Nat.zero_add, Nat.one_mul])
theorem place_3 (j : ((cfg0.win 3).xblock (cfg0.grid.coords t0_0)).Idx) : ((cfg0.win 3).blk t0_0).view.emb j = j :=
  funext fun a => Fin.ext (by
    show 0 * _ + 1 * (j a).val = (j a).val
    rw [Nat.zero_mul, Nat.zero_add, Nat.one_mul])
theorem fetched_0 (c : Dev nD) (D : Dat τ (Elt F) Unit ℕ UU ℕ cfg0 c) (d) : D.before (0 : Fin 4) t0_0 d = D.A (0 : Fin 4) := by
  unfold Dat.before; rw [if_pos (fetch0_0 t0_0)]
  funext j
  exact congrArg (D.A (0 : Fin 4)) (place_0 j)
theorem before0 (c : Dev nD) (d) : (dat m c).before (0 : Fin 4) t0_0 d = (insA m).x c := fetched_0 c (dat m c) d
theorem fetched_1 (c : Dev nD) (D : Dat τ (Elt F) Unit ℕ UU ℕ cfg0 c) (d) : D.before (1 : Fin 4) t0_0 d = D.A (1 : Fin 4) := by
  unfold Dat.before; rw [if_pos (fetch0_1 t0_0)]
  funext j
  exact congrArg (D.A (1 : Fin 4)) (place_1 j)
theorem before1 (c : Dev nD) (d) : (dat m c).before (1 : Fin 4) t0_0 d = (insA m).wq c := fetched_1 c (dat m c) d
theorem fetched_2 (c : Dev nD) (D : Dat τ (Elt F) Unit ℕ UU ℕ cfg0 c) (d) : D.before (2 : Fin 4) t0_0 d = D.A (2 : Fin 4) := by
  unfold Dat.before; rw [if_pos (fetch0_2 t0_0)]
  funext j
  exact congrArg (D.A (2 : Fin 4)) (place_2 j)
theorem before2 (c : Dev nD) (d) : (dat m c).before (2 : Fin 4) t0_0 d = (insA m).wo c := fetched_2 c (dat m c) d

theorem scratch_eq (c : Dev nD) : (Pipeline.scopedRest (Ix := Unit) (Name := ℕ) (U := UU) (Lvl := ℕ) (Val := Elt F) spec0 c : sProp 𝕄) = scratch c :=
  (scopedRest0_eq c).trans rfl

theorem body_obligation (c : Dev nD) : BodyObligation (dat (F := F) m c) (defs₀ (F := F)) 𝒱₀ () Set.univ := fun t => by
  rw [fin_N0 t]
  rw [bigSep_W0, bigSep_W0]
  simp only [owns_whole_eq]
  show iprop(Φ₀ m c ∗ (dat m c).owesAt () t0_0.castSucc
      ∗ (∃ d, stg c cc0_stg0_0 ((dat m c).before (0 : Fin 4) t0_0 d)) ∗ (∃ d, stg c cc0_stg1_0 ((dat m c).before (1 : Fin 4) t0_0 d))
      ∗ (∃ d, stg c cc0_stg2_0 ((dat m c).before (2 : Fin 4) t0_0 d)) ∗ ∃ d, stg c cc0_stg3_0 ((dat m c).before (3 : Fin 4) t0_0 d))
    ⊢ wp frame (wpE (defs₀ (F := F)) 𝒱₀ c none) Set.univ theBody (fun _ => iprop(Φ₁ m c ∗ (dat m c).owesAt () t0_0.succ
      ∗ stg c cc0_stg0_0 ((insA m).x c) ∗ stg c cc0_stg1_0 ((insA m).wq c) ∗ stg c cc0_stg2_0 ((insA m).wo c) ∗ stg c cc0_stg3_0 (outOf (insA m) c)))
  simp only [before0, before1, before2]
  unfold Φ₀ Φ₁ Xk
  rw [held_Hs, held_Hs, scratch_eq, V2'_of m c _ (StableHlo.devRef_ne_of_ne (by decide) : (Proc.devRef .tc main_v19 : DevRef τ sig) ≠ Proc.devRef .tc main_v31),
    V2'_of m c _ (StableHlo.devRef_ne_of_ne (by decide) : (Proc.devRef .tc main_v29 : DevRef τ sig) ≠ Proc.devRef .tc main_v31)]
  iintro ⟨⟨Hs, Hp, ⟨Hk, Hv⟩, ⟨%K, #HR, HX⟩⟩, HO, ⟨%d0, Hx⟩, ⟨%d1, Hwq⟩, ⟨%d2, Hwo⟩, ⟨%d3, Ho⟩⟩
  ihave Hx := (stg_out c _ _) $$ Hx
  ihave Hwq := (stg_out c _ _) $$ Hwq
  ihave Hwo := (stg_out c _ _) $$ Hwo
  ihave Ho := (stg_out c _ _) $$ Ho
  ihave HO := (owesAt_elim m c t0_0.castSucc (O₀ c) rfl) $$ HO
  iapply (run (insA m) K c _)
  isplitl [Hs Hk Hv HX HO Hx Hwq Hwo Ho]
  · iapply (make_pre (insA m) K c)
    isplitr
    · iexact HR
    isplitl [HX]
    · iexact HX
    isplitl [HO]
    · iexact HO
    isplitl [Hx Hwq Hwo Hk Hv]
    · unfold inputs
      isplitl [Hx]
      · iexact Hx
      isplitl [Hwq]
      · iexact Hwq
      isplitl [Hwo]
      · iexact Hwo
      isplitl [Hk]
      · iexact Hk
      iexact Hv
    isplitl [Ho]
    · iexists _; iexact Ho
    iexact Hs
  iintro HP
  imod (split_post (insA m) K c) $$ [HP] with ⟨HO, HY, Hi, Ho, Hs⟩
  · isplitr
    · iexact HR
    iexact HP
  unfold inputs
  icases Hi with ⟨Hx, Hwq, Hwo, Hk, Hv⟩
  imodintro
  isplitl [Hs Hp Hk Hv HY]
  · isplitl [Hs]
    · iexact Hs
    isplitl [Hp]
    · iexact Hp
    isplitl [Hk Hv]
    · isplitl [Hk]
      · iexact Hk
      iexact Hv
    iexact HY
  isplitl [HO]
  · iapply (owesAt_intro m c t0_0.succ 0 rfl); iexact HO
  isplitl [Hx]
  · iapply (stg_in c _ _); iexact Hx
  isplitl [Hwq]
  · iapply (stg_in c _ _); iexact Hwq
  isplitl [Hwo]
  · iapply (stg_in c _ _); iexact Hwo
  iapply (stg_in c _ _); iexact Ho

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_zero (c : Dev nD) : (dats (F := F) m 0 c).owed 0 = O₀ c := rfl
theorem owed_last (c : Dev nD) : (dats (F := F) m 0 c).owed (Fin.last _) = 0 := rfl
theorem cutD (c : Dev nD) (t : Fin ((Pipeline.pin (pcfgs (F := F)) adm 0).N + 1)) (g : GSem nD τ sig) (i : Unit) (h : 0 < (dats (F := F) m 0 c).owed t g i) :
    i ∈ L g ∧ (0 : ℕ) < lv g i := by
  rcases t with ⟨_ | n, ht⟩
  · rcases O₀_pos (show 0 < O₀ c g i from h) with (⟨j, -, rfl⟩ | ⟨d, rfl⟩) | ⟨d, rfl⟩
    · exact ⟨Finset.mem_singleton_self _, by rw [lv_r]; omega⟩
    · exact ⟨Finset.mem_singleton_self _, by rw [lv_exit]; omega⟩
    · exact ⟨Finset.mem_singleton_self _, by rw [lv_bar]; omega⟩
  · exact absurd h (Nat.lt_irrefl 0)

theorem stage_level (w : Fin 4) : ∀ s : Fin ((cfg0.win w).nbuf), role ((cfg0.win w).sem s) = none := by revert w; decide
theorem cutL (c : Dev nD) (w : Fin 4) (s : Fin ((cfg0.win w).nbuf)) : lv ((c : Thread nD τ), .dma ((cfg0.win w).sem s)) () ≤ 0 := by
  show (match role ((cfg0.win w).sem s) with | some (.inr i) => i.val + 2 | _ => 0) ≤ 0
  rw [stage_level]
theorem arr_in (c : Dev nD) (w : Fin 4) (hw : (cfg0.win w).isOut = false) (h : (Proc.devRef .tc (Pipeline.arrRef spec0 w) : DevRef τ sig) ≠ Proc.devRef .tc main_v31) (t : ℕ) :
    (dat (F := F) m c).arrAt w t = V2' m c (Proc.devRef .tc (Pipeline.arrRef spec0 w)) :=
  ((dat m c).arrAt_in w hw t).trans (V2'_of m c _ h).symm
theorem written (c : Dev nD) (X P : Vec F S256x1024 .f32) : ((cfg0.win 3).blk t0_0).view.write (Elt F) X P Finset.univ = P := by
  have h := View.read_write_univ (v := ((cfg0.win 3).blk t0_0).view) X P
  funext j
  exact (congrArg (((cfg0.win 3).blk t0_0).view.write (Elt F) X P Finset.univ) (place_3 j)).symm.trans (congrFun h j)
theorem arr_out (c : Dev nD) : (dat (F := F) m c).arrAt (3 : Fin 4) 1 = outOf (insA m) c := by
  refine ((dat m c).arrAt_succ (3 : Fin 4) t0_0).trans ((if_pos (flush0_3 t0_0)).trans ?_)
  exact written c _ _

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem own_facts Hs Sr Hs_sub kitP rfl (fun c => (body_obligation m c).loose)
    (fun _ => 0) O₀ (fun c => (owed_zero m c).trans (zero_add _).symm) (owed_last m) (fun _ => rfl) (share_eq m)
    (V1 m) (V2' m) (fun c b hb => V2'_of m c b (by
      rintro rfl
      exact absurd (Finset.mem_sdiff.mp hb).1 (by decide)))
    (Tk (insA m)) Yk (Xk (insA m)) Yk (hopen (insA m)) (fun c => Entails.refl _) (fun c => Entails.refl _)
    (fun c => by iintro H; imodintro; iexact H)
    (fun _ => 0)
    ⟨fun c w s => Finset.mem_singleton_self _, cutL, fun c t g i h => cutD m c t g i h⟩
    (fun _ => iprop(emp))
    (fun c w => rfl)
    (fun c w => match w with
      | ⟨0, _⟩ => arr_in m c 0 rfl (StableHlo.devRef_ne_of_ne (by decide)) _
      | ⟨1, _⟩ => arr_in m c 1 rfl (StableHlo.devRef_ne_of_ne (by decide)) _
      | ⟨2, _⟩ => arr_in m c 2 rfl (StableHlo.devRef_ne_of_ne (by decide)) _
      | ⟨3, _⟩ => (arr_out m c).trans (V2'_out m c).symm)

end Cert.KernelIdeal.Exchange

end
-- ==== Proof.Shares.lean ====
/-
# The run

The launch hands every device its share of the protocol's state; each device then runs its first host stretch, the region
and its last host stretch. The whole terminates with the arguments as they were, the result the array the region
leaves, and every counter at zero.
-/
module

public import proofs.«01_k».proof.Proof.Deal
public import proofs.«01_k».proof.Proof.Region
public import Idealize.ShloMosaic.Lib.Quiescent

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Every device's share -/

/-- The whole launch element, kept with one device until it is dealt. -/
def hoard (X : sProp 𝕄) (c : Dev nD) : sProp 𝕄 := if c = 0 then X else iprop(emp)
theorem hoard_all (X : sProp 𝕄) : bigSep Finset.univ (hoard X) = X := by
  rw [bigSep_univ_at _ (0 : Dev nD), bigSep_congr (s := Finset.univ.erase (0 : Dev nD)) (Ψ := fun _ => (BI.emp : sProp 𝕄))
      fun c hc => by unfold hoard; rw [if_neg (Finset.ne_of_mem_erase hc)]; rfl, BI.bigSep_emp_const]
  unfold hoard; rw [if_pos rfl]
  exact BI.equiv_iff.mp sep_emp

abbrev deal : sProp 𝕄 := BI.own (ER (launchOf barCells shutCells theToks))
def u₀ : UU :=
  (initOf (Pipeline.cells (Pipeline.pin (pcfgs (F := F)) adm) cellOf_inj) (Pipeline.launchToks (Pipeline.pin (pcfgs (F := F)) adm) cellOf_inj),
    (launchOf barCells shutCells theToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_eq : ∀ sm : SemLoc sig, sm.isScoped .tc = false → sm = .reg barrier0 := by decide

variable (A : Ins F)

/-- What only device `c` gets: its positions and rights to open, the tokens it pays with, -/
def mine (c : Dev nD) : sProp 𝕄 :=
  iprop(atPos ER (barCell c) 0 ∅ 0
    ∗ (openTok ER (exitCell c) ∗ (bigSep Finset.univ fun i => openTok ER (sCell c i)) ∗ bigSep Finset.univ fun i => openTok ER (rCell c i)) ∗ pays c)
/-- what it may expect, what it owes and its register, -/
def rest (c : Dev nD) : sProp 𝕄 :=
  iprop(Pipeline.launchCred O₀ c ∗ owing c (O₀ c) ∗ ∃ r, prngReg c r)
/-- and what everyone may look up. -/
def common (K : Dev nD × Key → ℕ) : sProp 𝕄 := iprop(records A K ∗ bigSep barCells fun g => reached ER g 0)
instance common_persistent (K : Dev nD × Key → ℕ) : BI.Persistent (common A K) := by unfold common; infer_instance
theorem reached_at (c : Dev nD) : (bigSep barCells fun g => (reached ER g 0 : sProp 𝕄)) ⊢ reached ER (barCell c) 0 :=
  bigSep_elim (Finset.mem_map_of_mem barEmb (Finset.mem_univ c))

/-- A device's state on the way to the region, and after it. -/
def E₀ (c : Dev nD) : sProp 𝕄 := iprop((∃ r, prngReg c r) ∗ Tk A c ∗ owing c (O₀ c))
def E₁ (c : Dev nD) : sProp 𝕄 := iprop(Yk c ∗ owing c 0)

theorem share_intro (K : Dev nD × Key → ℕ) (c : Dev nD) : iprop(common A K ∗ (mine c ∗ rest c)) ⊢ E₀ A c := by
  unfold common mine rest pays E₀ Tk ghost
  iintro ⟨⟨#HR, #Hr⟩, ⟨Hat, Hop, ⟨⟨⟨Hbn, Hbp⟩, ⟨Hen, Hep⟩⟩, ⟨Hs, Ht⟩⟩⟩, ⟨Hc, HO, Hp⟩⟩
  ihave Hc := (creds (F := F) c) $$ Hc
  isplitl [Hp]
  · iexact Hp
  isplitr [HO]
  · iexists K
    isplitr
    · iexact HR
    isplitl [Hbn Hbp Hen Hep Hat]
    · isplitl [Hbp]
      · iexact Hbp
      isplitl [Hbn]
      · iexact Hbn
      isplitl [Hep]
      · iexact Hep
      isplitl [Hen]
      · iexact Hen
      isplitr
      · iapply (reached_at (F := F) (prv c)); iexact Hr
      isplitr
      · iapply (reached_at (F := F) (nxt c)); iexact Hr
      iexact Hat
    isplitl [Hop]
    · iexact Hop
    isplitl [Hs Ht]
    · isplitl [Hs]
      · iexact Hs
      iexact Ht
    iexact Hc
  iexact HO

theorem atPos_all : bigSep barCells (fun g => (atPos ER g 0 ∅ 0 : sProp 𝕄)) = bigSep Finset.univ fun c : Dev nD => (atPos ER (barCell c) 0 ∅ 0 : sProp 𝕄) :=
  bigSep_map (s := Finset.univ) barEmb (Φ := fun g : GSem nD τ sig => (atPos ER g 0 ∅ 0 : sProp 𝕄))
theorem vals_all : bigSep barCells (fun g => (semVal g 0 : sProp 𝕄)) = bigSep Finset.univ fun c : Dev nD => (semVal (barCell c) 0 : sProp 𝕄) :=
  bigSep_map (s := Finset.univ) barEmb (Φ := fun g : GSem nD τ sig => (semVal g 0 : sProp 𝕄))
theorem opens_all : bigSep shutCells (fun g => (openTok ER g : sProp 𝕄)) = bigSep Finset.univ fun c : Dev nD =>
    (iprop(openTok ER (exitCell c) ∗ (bigSep Finset.univ fun i => openTok ER (sCell c i)) ∗ bigSep Finset.univ fun i => openTok ER (rCell c i)) : sProp 𝕄) := by
  rw [bigSep_map, bigSep_univ_prod]
  refine bigSep_congr fun c _ => ?_
  rw [bigSep_univ_sum, bigSep_univ_sum, bigSep_univ_eq_bigSepL [()] (by decide) (by decide), bigSepL_singleton]
  rfl

theorem both_all (Φ Ψ : Dev nD → sProp 𝕄) : iprop(bigSep Finset.univ Φ ∗ bigSep Finset.univ Ψ) ⊢ bigSep Finset.univ fun c => iprop(Φ c ∗ Ψ c) :=
  Entails.of_eq (bigSep_sep' Finset.univ Φ Ψ).symm

/-- From the barriers' counters and the launch element, every device's share at once. -/
theorem deal_out : iprop((bigSep Finset.univ fun c : Dev nD => semVal (barCell c) 0) ∗ deal ∗ bigSep Finset.univ fun c : Dev nD => rest c)
    ⊢ (|={Set.univ}=> bigSep Finset.univ fun c : Dev nD => E₀ A c : sProp 𝕄) := by
  rw [← vals_all]
  iintro ⟨Hv, Hu, HB⟩
  imod (Rounds.fund_launch ER (Rd A) disjoint_cells (fun g _ h => h) theToks) $$ [Hv Hu] with ⟨%κ, -, #Hinv, #Hr, Hat, Hopen, Htok⟩
  · isplitl [Hv]
    · iexact Hv
    iexact Hu
  imodintro
  iapply (bigSep_with_persistent (R := common A fun x => κ (kcell x)) (Φ := fun c => iprop(mine c ∗ rest c)) fun c _ => share_intro A (fun x => κ (kcell x)) c)
  isplitr
  · unfold common
    isplitr
    · unfold records
      iapply (Entails.of_eq ((congrArg (fun S => bigSep S fun g => (cellInv ER (Rd A) (κ g) g : sProp 𝕄)) all_cells).trans
        (bigSep_map (s := Finset.univ) cellEmb (Φ := fun g : GSem nD τ sig => (cellInv ER (Rd A) (κ g) g : sProp 𝕄))))); iexact Hinv
    iexact Hr
  iapply (both_all _ _)
  isplitr [HB]
  · unfold mine
    iapply (both_all _ _)
    isplitl [Hat]
    · iapply (Entails.of_eq (atPos_all (F := F))); iexact Hat
    iapply (both_all _ _)
    isplitl [Hopen]
    · iapply (Entails.of_eq (opens_all (F := F))); iexact Hopen
    iapply (Entails.of_eq ((toks_eq (F := F)).trans toks_around)); iexact Htok
  iexact HB

end Cert.KernelIdeal.Exchange

end
-- ==== Proof.Run.lean ====
/-
# The run

Each device runs its first host stretch, the region and its last host stretch. The whole terminates with every buffer
outside the scoped ones at the value the stretches and the region leave, and every counter at zero.
-/
module

public import proofs.«01_k».proof.Proof.Shares

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What rides beside the buffers, before the region and after it. -/
def E : Fin 2 → Dev nD → sProp 𝕄
  | 0 => E₀ (insA m)
  | 1 => E₁

abbrev uc : Finset (DevRef τ sig) := Pipeline.ucRefs τ sig
theorem arr_sub : Pipeline.arrRefs (τ := τ) spec0 ⊆ uc := Pipeline.arrRefs_sub_ucRefs spec0 (by decide)

theorem enter_region (c : Dev nD) : iprop(StableHlo.held (c : Thread nD τ) uc (V1 m c) ∗ E m 0 c) ⊢ (reg m).pre c := by
  show iprop(StableHlo.held (c : Thread nD τ) uc (V1 m c) ∗ E₀ (insA m) c)
    ⊢ iprop(StableHlo.held (c : Thread nD τ) (Pipeline.arrRefs (τ := τ) spec0) (V1 m c) ∗ (∃ r, prngReg c r)
      ∗ (StableHlo.held (c : Thread nD τ) Sr (V1 m c) ∗ emp) ∗ Tk (insA m) c ∗ ∃ Wd, owes (c : Thread nD τ) (0 + O₀ c) Wd)
  rw [zero_add, StableHlo.held_sub_split (c : Thread nD τ) arr_sub (V1 m c)]
  unfold E₀ owing Sr
  iintro ⟨⟨Ha, Hr⟩, ⟨Hp, HT, HO⟩⟩
  isplitl [Ha]
  · iexact Ha
  isplitl [Hp]
  · iexact Hp
  isplitl [Hr]
  · isplitl [Hr]
    · iexact Hr
    iempintro
  isplitl [HT]
  · iexact HT
  iexact HO

theorem leave_region (c : Dev nD) : (reg m).post c ⊢ iprop(StableHlo.held (c : Thread nD τ) uc (V2 m (outs m) c) ∗ E m 1 c) := by
  show iprop(StableHlo.held (c : Thread nD τ) (Pipeline.arrRefs (τ := τ) spec0) (V2' m c) ∗ (∃ r, prngReg c r)
      ∗ (StableHlo.held (c : Thread nD τ) Sr (V2' m c) ∗ emp) ∗ Yk c ∗ ∃ Wd, owes (c : Thread nD τ) (0 : CellTallies nD τ sig Unit) Wd)
    ⊢ iprop(StableHlo.held (c : Thread nD τ) uc (V2 m (outs m) c) ∗ E₁ c)
  rw [V2_eq, StableHlo.held_sub_split (c : Thread nD τ) arr_sub (V2' m c)]
  unfold E₁ owing Sr
  iintro ⟨Ha, -, ⟨Hr, -⟩, HY, HO⟩
  isplitl [Ha Hr]
  · isplitl [Ha]
    · iexact Ha
    iexact Hr
  isplitl [HY]
  · iexact HY
  iexact HO

abbrev T₀ (c : Dev nD) : sProp 𝕄 := iprop(StableHlo.held (c : Thread nD τ) uc (V0 m c) ∗ E m 0 c)
abbrev Tₙ (c : Dev nD) : sProp 𝕄 := iprop(StableHlo.held (c : Thread nD τ) uc (V3 m (outs m) c) ∗ Yk c)

theorem init : iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ hoard deal c)) ∗ levAts L lv)
    ⊢ (|={Set.univ}=> bigSep Finset.univ (T₀ m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ hoard deal c)
      ⊢ (iprop(StableHlo.held (c : Thread nD τ) uc (V0 m c) ∗ semVal (barCell c) 0 ∗ hoard deal c ∗ rest c) : sProp 𝕄) := by
    rw [show unscopedBufs c (fun b => m ((c : Thread nD τ).loc b)) = StableHlo.held (c : Thread nD τ) uc (V0 m c)
        from Pipeline.unscopedBufs_held (Ix := Unit) (Name := ℕ) (U := UU) (Lvl := ℕ) c (V0 m c), unscopedSems0_eq]
    unfold rest owing
    iintro ⟨Hh, Hv, HO, Hc, Hp, HG⟩
    isplitl [Hh]
    · iexact Hh
    isplitl [Hv]
    · iexact Hv
    isplitl [HG]
    · iexact HG
    isplitl [Hc]
    · iexact Hc
    isplitl [HO]
    · iexists ∅; iexact HO
    iexists (ρ c); iexact Hp
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ hoard deal c))
      ⊢ (iprop((bigSep Finset.univ fun c : Dev nD => StableHlo.held (c : Thread nD τ) uc (V0 m c)) ∗ (bigSep Finset.univ fun c : Dev nD => semVal (barCell c) 0)
        ∗ deal ∗ bigSep Finset.univ fun c : Dev nD => rest c) : sProp 𝕄) := by
    refine (bigSep_mono fun c _ => hone c).trans ?_
    rw [bigSep_sep', bigSep_sep', bigSep_sep', hoard_all]
    exact Entails.refl _
  iintro ⟨H, -⟩
  ihave H' := hall $$ H
  icases H' with ⟨Hh, Hv, HG, HB⟩
  imod (deal_out (insA m)) $$ [Hv HG HB] with HE
  · isplitl [Hv]
    · iexact Hv
    isplitl [HG]
    · iexact HG
    iexact HB
  imodintro
  iapply (both_all _ _)
  isplitl [Hh]
  · iexact Hh
  iexact HE

set_option backward.isDefEq.respectTransparency.types false in
/-- From any memory with zero counters every weakly fair execution of the program terminates, every unscoped buffer holding
    what the host stretches and the region leave there, every counter of the machine at zero. -/
theorem run_all : θ_run defs (onTc (τ := τ) (main (F := F))) ⟨m, fun _ => 0, ρ⟩
    (fun r => (∀ c : Dev nD, ∀ b ∈ uc, r.2.mem ((c : Thread nD τ).1, b) = V3 m (outs m) c b) ∧ r.2.sem = fun _ => 0) := by
  refine Pipeline.θ_run_regions_kit_dev_sems (pcfgs (F := F)) adm (dats m) () cellOf_inj EP defs₀ 𝒱₀ L lv m ρ main
    (segs m (outs m) 𝒱₀ L lv (E m) () (dats m) (reg m))
    (fun c Q => by
      rewrite [main_chain c, Pipeline.Seg.run_eq_chain,
        show (segs m (outs m) 𝒱₀ L lv (E m) () (dats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne (hoard deal) u₀
    (by
      unfold u₀
      iintro Hu
      ihave H := (ownU_split _ _) $$ Hu
      icases H with ⟨HP, HX⟩
      imodintro
      isplitl [HP]
      · iexact HP
      rw [hoard_all]; iexact HX)
    (T₀ := T₀ m) (Tₙ := Tₙ m)
    (hch := fun c => ⟨.rfl, enter_region m c, leave_region m c, ?_⟩)
    (hinit := init m ρ)
    (QY := fun c s => (∀ b ∈ uc, s.mem ((c : Thread nD τ).1, b) = V3 m (outs m) c b) ∧ s.sem (barCell c) = 0)
    (hfin := fun c s' => ?_)
    (hQ := fun s h hs => ⟨fun c => (h c).1, sem_eq_zero hs fun c sm hsm => by obtain rfl := unscoped_eq sm hsm; exact (h c).2⟩)
  · show iprop(StableHlo.held (c : Thread nD τ) uc (V3 m (outs m) c) ∗ E₁ c)
      ⊢ iprop(Tₙ m c ∗ ∃ W, owes (c : Thread nD τ) (0 : CellTallies nD τ sig Unit) W)
    unfold E₁ owing
    iintro ⟨Hh, HY, HO⟩
    isplitr [HO]
    · isplitl [Hh]
      · iexact Hh
      iexact HY
    iexact HO
  · dsimp only [Tₙ]
    unfold Yk StableHlo.held
    iintro ⟨⟨Hh, Hb⟩, HSI⟩
    icombine HSI Hb gives %hb
    ihave Hr := (pointsTo_read_all uc (fun b => ((c : Thread nD τ).1, b)) (V3 m (outs m) c) s') $$ [Hh HSI]
    · isplitl [Hh]
      · iexact Hh
      iexact HSI
    icases Hr with ⟨%h, HSI⟩
    imodintro
    isplitr
    · ipureintro
      exact ⟨h, by simpa using hb⟩
    iexact HSI

/-- The arguments are as launched, the result is what the last stretch writes, every counter is at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v32) = V3 m (outs m) c main_v32)
    ∧ r.2.sem = fun _ => 0) := by
  have hm (b : Ref sig .tc) (h : (Proc.devRef .tc b : DevRef τ sig).isScoped = false) : (Proc.devRef .tc b : DevRef τ sig) ∈ uc :=
    Finset.mem_filter.mpr ⟨StableHlo.devRef_mem_tcRefs b, by rw [h]; decide⟩
  refine (θ_run defs _ _).mono (fun r h => ⟨fun c => ⟨⟨?_, ?_, ?_, ?_, ?_⟩, ?_⟩, h.2⟩) (run_all m ρ)
  · exact (h.1 c _ (hm main_arg0 rfl)).trans (V3_main_arg0 m _ c)
  · exact (h.1 c _ (hm main_arg1 rfl)).trans (V3_main_arg1 m _ c)
  · exact (h.1 c _ (hm main_arg2 rfl)).trans (V3_main_arg2 m _ c)
  · exact (h.1 c _ (hm main_arg3 rfl)).trans (V3_main_arg3 m _ c)
  · exact (h.1 c _ (hm main_arg4 rfl)).trans (V3_main_arg4 m _ c)
  · exact h.1 c _ (hm main_v32 rfl)

end Cert.KernelIdeal.Exchange

end
-- ==== Proof.Frames.lean ====
/-
# The frames

The run of the program, read at the two instances of the claims; and the reference's, a host program on one device.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

theorem frame_kernel_ideal : Cert.quiescent_KernelIdeal := fun m ρ _ =>
  (θ_run Cert.KernelIdeal.defs _ _).mono (fun _ h => ⟨fun c => (h.1 c).1, h.2⟩) (Cert.KernelIdeal.Exchange.run_main (F := Ideal) m ρ)

/-- The kernel and its idealization are one text: their tables of bodies agree label by label. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  fin_cases l
  rfl

theorem defs_eq : Cert.Kernel.defs (F := Bits) = Cert.KernelIdeal.defs (F := Bits) :=
  congrArg (Pipeline.defs Cert.KernelIdeal.pcfgs) bodies_eq

/-- So the run at bits is the kernel's. -/
theorem frame_kernel : Cert.quiescent_Kernel := by
  intro m ρ _
  rw [defs_eq]
  exact (θ_run Cert.KernelIdeal.defs _ _).mono (fun _ h => ⟨fun c => (h.1 c).1, h.2⟩) (Cert.KernelIdeal.Exchange.run_main (F := Bits) m ρ)

theorem frame_reference_ideal : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.Proof

end
-- ==== Proof.Finite.lean ====
/-
# The precondition, entry by entry

Where the precondition holds of a device's blocks, every entry of its block of `x`, of its query weights and of the keys is a real number.
-/
module

public import proofs.«01_k».proof.Defs
public import Idealize.ShloMosaic.Lib.Pointwise
public import Idealize.ShloMosaic.Lib.ReduceAll

@[expose] public section

noncomputable section

namespace Cert.Proof

open Idealize.ShloMosaic

/-- The shape relations of the precondition, read over a device's blocks. -/
instance preFacts : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x64x128 := by decide
  reducesTo_S1x4096x64x128_S_d0_1_2_3 := by decide

/-- The same over the whole arrays. -/
instance preFactsReference : Cert.Pre_finite_ReferenceIdeal.Facts where
  bcast_S_S1x2048x1024 := by decide
  reducesTo_S1x2048x1024_S_d0_1_2 := by decide
  h_S_ := by decide
  bcast_S_S1024x8192 := by decide
  reducesTo_S1024x8192_S_d0_1 := by decide
  bcast_S_S1x4096x64x128 := by decide
  reducesTo_S1x4096x64x128_S_d0_1_2_3 := by decide

open Cert.Pre_finite_KernelIdeal in
theorem finite_entries (x : FVec Ideal S1x256x1024 .f32) (wq : FVec Ideal S1024x1024 .f32) (k v : FVec Ideal S1x4096x64x128 .f32) (wo : FVec Ideal S1024x1024 .f32)
    (h : Cert.Pre_finite_KernelIdeal.fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have h0 := congrFun h ix0
  unfold Cert.Pre_finite_KernelIdeal.fn at h0
  obtain ⟨h1, h3⟩ := IntOp.andi_eq_one.1 h0
  obtain ⟨h1, h2⟩ := IntOp.andi_eq_one.1 h1
  have e : ∀ y : EReal, Ideal.cmp .olt (max y (-y)) (Ideal.ofBits .f32 0x7F800000#32) = 1#1 → ∃ r : ℝ, y = (r : EReal) := by
    intro y hy
    rw [show Ideal.ofBits .f32 0x7F800000#32 = (⊤ : EReal) by simp [Ideal.ofBits, Ideal.ieee]] at hy
    have hlt : max y (-y) < ⊤ := by
      by_contra hn
      simp [Ideal.cmp, hn] at hy
    induction y with
    | bot => simp at hlt
    | top => simp at hlt
    | coe r => exact ⟨r, rfl⟩
  refine ⟨fun i => e _ ?_, fun i => e _ ?_, fun i => e _ ?_⟩
  · have := Host.reduce_andi_all _ _ _ _ _ h1 i
    exact this
  · have := Host.reduce_andi_all _ _ _ _ _ h2 i
    exact this
  · have := Host.reduce_andi_all _ _ _ _ _ h3 i
    exact this

end Cert.Proof

end
-- ==== Proof.Slot.lean ====
/-
# One slot's partial output at an index

The eight heads of a device on one block of rows, read at an index over the extended reals: queries, exponentials, mixes,
quotients and projection, as sums.
-/
module

public import proofs.«01_k».proof.Proof.Contents
public import Idealize.ShloMosaic.Lib.Pointwise

@[expose] public section

noncomputable section

namespace Cert.KernelIdeal.Exchange

open Cert.KernelIdeal Cert.KernelIdeal.Gen
open Idealize.ShloMosaic Idealize.ShloMosaic.TcCoe

theorem wqCut_at (o : ℕ) (hs) (w : FVec Ideal S1024x1024 .bf16) (l : Fin 1024) (d : Fin 128) (ho : o + d.val < 1024) :
    wqCut (F := Ideal) ![0, o] hs w (ix2 l d) = w (ix2 l ⟨o + d.val, ho⟩) := by
  pointwise [wqCut]

theorem woCut_at (o : ℕ) (hs) (w : FVec Ideal S1024x1024 .bf16) (d : Fin 128) (n : Fin 1024) (ho : o + d.val < 1024) :
    woCut (F := Ideal) ![o, 0] hs w (ix2 d n) = w (ix2 ⟨o + d.val, ho⟩ n) := by
  pointwise [woCut]

theorem queries_at (P : FVec Ideal S1x256x1024 .bf16) (wq : FVec Ideal S1024x1024 .bf16) (h : Fin 8) (q : Fin 256) (d : Fin 128) :
    queries (F := Ideal) P wq (ix3 h q d) = ∑ l : Fin 1024, P (ix3 0 q l) * wq (ix2 l ⟨h.val * 128 + d.val, by omega⟩) := by
  unfold queries
  unfold_payloads
  pointwise []
  fin_vals h with hk
  all_goals simp only [hk, Nat.reduceSub, Nat.reduceLT, ↓reduceDIte]
  all_goals exact Finset.sum_congr rfl fun l _ => congrArg₂ (· * ·) rfl ((wqCut_at _ _ wq l d (by omega)).trans (congrArg (fun j => wq (ix2 l j)) (Fin.ext (by dsimp only))))

theorem escore_at (Q : FVec Ideal S8x256x128 .bf16) (a : ℕ) (hs : S8x256x128.Slices ![0, a, 0] S8x64x128) (K : FVec Ideal S1x8x1024x128 .bf16)
    (h : Fin 8) (t : Fin 64) (r : Fin 1024) (q : Fin 256) (hq : q.val = a + t.val) :
    escore (F := Ideal) Q ![0, a, 0] hs K (ix3 h t r) = Ideal.exp (∑ d : Fin 128, Q (ix3 h q d) * K (ix4 0 h r d)) := by
  obtain ⟨q, hb⟩ := q
  obtain rfl : q = a + t.val := hq
  pointwise [escore]

theorem esum_at (e : FVec Ideal S8x64x1024 .f32) (h : Fin 8) (t : Fin 64) : esum (F := Ideal) e (ix2 h t) = ∑ r : Fin 1024, e (ix3 h t r) := by
  pointwise [esum]

theorem emix_at (e : FVec Ideal S8x64x1024 .f32) (V : FVec Ideal S1x8x1024x128 .bf16) (h : Fin 8) (t : Fin 64) (d : Fin 128) :
    emix (F := Ideal) e V (ix3 h t d) = ∑ r : Fin 1024, e (ix3 h t r) * V (ix4 0 h r d) := by
  pointwise [emix]

theorem context_at (e : Fin 4 → FVec Ideal S8x64x1024 .f32) (v : Fin 4 → FVec Ideal S1x8x1024x128 .bf16) (h : Fin 8) (p : Fin 4) (t : Fin 64) (d : Fin 128) :
    context (F := Ideal) (e 0) (e 1) (e 2) (e 3) (v 0) (v 1) (v 2) (v 3) (ix3 h ⟨p.val * 64 + t.val, by omega⟩ d)
      = Ideal.div (emix (F := Ideal) (e p) (v p) (ix3 h t d)) (esum (F := Ideal) (e p) (ix2 h t)) := by
  pointwise [context]
  have ht := t.isLt
  fin_vals p with hk
  · rw [dif_pos (by omega), dif_pos (by omega)]
    congr 4 <;> omega
  · rw [dif_neg (by omega), dif_pos (by omega), dif_neg (by omega), dif_pos (by omega)]
    congr 4 <;> omega
  · rw [dif_neg (by omega), dif_neg (by omega), dif_pos (by omega), dif_neg (by omega), dif_neg (by omega), dif_pos (by omega)]
    congr 4 <;> omega
  · rw [dif_neg (by omega), dif_neg (by omega), dif_neg (by omega), dif_neg (by omega), dif_neg (by omega), dif_neg (by omega)]
    congr 4 <;> omega

theorem heads_at (C : FVec Ideal S8x256x128 .bf16) (wo : FVec Ideal S1024x1024 .bf16) (q : Fin 256) (n : Fin 1024) :
    heads (F := Ideal) C wo (ix2 q n) = ∑ h : Fin 8, ∑ d : Fin 128, C (ix3 h q d) * wo (ix2 ⟨h.val * 128 + d.val, by omega⟩ n) := by
  pointwise [heads, headOut]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals exact Finset.sum_congr rfl fun d _ => congrArg₂ (· * ·) rfl ((woCut_at _ _ wo d n (by omega)).trans (congrArg (fun j => wo (ix2 j n)) (Fin.ext (by dsimp))))

theorem kvCut_at (p : Fin 4) (hs) (w : FVec Ideal S4x8x1024x128 .bf16) (h : Fin 8) (r : Fin 1024) (d : Fin 128) :
    kvCut (F := Ideal) ![p.val, 0, 0, 0] hs w (ix4 0 h r d) = w (ix4 p h r d) := by
  pointwise [kvCut]

/-- The score a slot gives row `q` of a block against key `r` of phase `p` in head `h`. -/
def slotScore (P : FVec Ideal S1x256x1024 .bf16) (wq : FVec Ideal S1024x1024 .bf16) (kt : FVec Ideal S4x8x1024x128 .bf16)
    (h : Fin 8) (p : Fin 4) (q : Fin 256) (r : Fin 1024) : EReal :=
  ∑ d : Fin 128, (∑ l : Fin 1024, P (ix3 0 q l) * wq (ix2 l ⟨h.val * 128 + d.val, by omega⟩)) * kt (ix4 p h r d)

theorem slices_phase (p : Fin 4) : S8x256x128.Slices ![0, 64 * p.val, 0] S8x64x128 := by
  fin_cases p
  · exact slices_S8x256x128_o0_0_0_S8x64x128
  · exact slices_S8x256x128_o0_64_0_S8x64x128
  · exact slices_S8x256x128_o0_128_0_S8x64x128
  · exact slices_S8x256x128_o0_192_0_S8x64x128

theorem inb_phase (p : Fin 4) (a : Fin 4) : ![p.val, 0, 0, 0] a + S1x8x1024x128.size a ≤ S4x8x1024x128.size a := by
  revert a
  fin_cases p
  · exact inb_S4x8x1024x128_S1x8x1024x128_0_0_0_0
  · exact inb_S4x8x1024x128_S1x8x1024x128_1_0_0_0
  · exact inb_S4x8x1024x128_S1x8x1024x128_2_0_0_0
  · exact inb_S4x8x1024x128_S1x8x1024x128_3_0_0_0

/-- A row's partial output, at an index whose row is the `t`-th of phase `p`. -/
theorem slotF_at (P : FVec Ideal S1x256x1024 .bf16) (wq : FVec Ideal S1024x1024 .bf16) (kt vt : FVec Ideal S4x8x1024x128 .bf16) (wo : FVec Ideal S1024x1024 .bf16)
    (p : Fin 4) (t : Fin 64) (q : Fin 256) (hq : q.val = p.val * 64 + t.val) (n : Fin 1024) :
    slotF (F := Ideal) P wq kt vt wo (ix3 0 q n)
      = ∑ h : Fin 8, ∑ d : Fin 128, Ideal.div (∑ r : Fin 1024, Ideal.exp (slotScore P wq kt h p q r) * vt (ix4 p h r d))
          (∑ r : Fin 1024, Ideal.exp (slotScore P wq kt h p q r)) * wo (ix2 ⟨h.val * 128 + d.val, by omega⟩ n) := by
  let e : Fin 4 → FVec Ideal S8x64x1024 .f32 := fun p =>
    escore (queries (F := Ideal) P wq) ![0, 64 * p.val, 0] (slices_phase p) (kvCut ![p.val, 0, 0, 0] (inb_phase p) kt)
  let v : Fin 4 → FVec Ideal S1x8x1024x128 .bf16 := fun p => kvCut (F := Ideal) ![p.val, 0, 0, 0] (inb_phase p) vt
  have he : ∀ (h : Fin 8) (r : Fin 1024), e p (ix3 h t r) = Ideal.exp (slotScore P wq kt h p q r) := fun h r => by
    refine (escore_at _ _ _ _ h t r q (by omega)).trans (congrArg Ideal.exp (Finset.sum_congr rfl fun d _ => ?_))
    rw [queries_at, kvCut_at]
  have hc : ∀ (h : Fin 8) (d : Fin 128), context (F := Ideal) (e 0) (e 1) (e 2) (e 3) (v 0) (v 1) (v 2) (v 3) (ix3 h q d)
      = Ideal.div (∑ r : Fin 1024, Ideal.exp (slotScore P wq kt h p q r) * vt (ix4 p h r d)) (∑ r : Fin 1024, Ideal.exp (slotScore P wq kt h p q r)) := by
    intro h d
    have hqq : q = ⟨p.val * 64 + t.val, by omega⟩ := Fin.ext hq
    refine (congrArg (fun j => context (F := Ideal) (e 0) (e 1) (e 2) (e 3) (v 0) (v 1) (v 2) (v 3) (ix3 h j d)) hqq).trans ((context_at e v h p t d).trans ?_)
    rw [emix_at, esum_at]
    refine congrArg₂ Ideal.div (Finset.sum_congr rfl fun r _ => ?_) (Finset.sum_congr rfl fun r _ => he h r)
    exact congrArg₂ (· * ·) (he h r) (kvCut_at p _ vt h r d)
  have hh : slotF (F := Ideal) P wq kt vt wo (ix3 0 q n) = heads (F := Ideal) (context (F := Ideal) (e 0) (e 1) (e 2) (e 3) (v 0) (v 1) (v 2) (v 3)) wo (ix2 q n) := by
    pointwise [slotF]
    rfl
  rw [hh, heads_at]
  exact Finset.sum_congr rfl fun h _ => Finset.sum_congr rfl fun d _ => by rw [hc]

end Cert.KernelIdeal.Exchange

end
-- ==== Proof.Sum.lean ====
/-
# A device's result as the sum over the devices

What the two half rings bring to a device, and its own share, are the eight devices' partial outputs of its block of rows.
-/
module

public import proofs.«01_k».proof.Proof.Slot

@[expose] public section

noncomputable section

namespace Cert.KernelIdeal.Exchange

open Cert.KernelIdeal Cert.KernelIdeal.Gen
open Idealize.ShloMosaic Idealize.ShloMosaic.TcCoe

theorem blk_at (A : Ins Ideal) (d : Dev nD) (q : Fin 256) (l : Fin 1024) : blk A d (ix3 0 q l) = A.x d (ix2 q l) := by
  unfold blk
  unfold_payloads
  pointwise []

theorem outOf_hops (A : Ins Ideal) (c : Dev nD) (q : Fin 256) (n : Fin 1024) :
    outOf A c (ix2 q n) = part A c 0 (ix3 0 q n)
      + (part A (nxt c) 7 (ix3 0 q n) + (part A (nxt (nxt c)) 6 (ix3 0 q n) + part A (nxt (nxt (nxt c))) 5 (ix3 0 q n)))
      + (part A (prv c) 1 (ix3 0 q n) + (part A (prv (prv c)) 2 (ix3 0 q n) + (part A (prv (prv (prv c))) 3 (ix3 0 q n) + part A (prv (prv (prv (prv c)))) 4 (ix3 0 q n)))) := by
  unfold outOf l2 l1 l0 r3 r2 r1 r0
  unfold_payloads
  pointwise []

/-- Device `d`'s partial output of device `c`'s block of rows. -/
def rowsOf (A : Ins Ideal) (c d : Dev nD) : FVec Ideal S1x256x1024 .f32 := slotF (blk A c) (A.wq d) (A.kt d) (A.vt d) (A.wo d)

theorem part_rowsOf (A : Ins Ideal) (c d : Dev nD) (s : ℕ) (h : sh s d = c) : part A d s = rowsOf A c d := by
  subst h; rfl

theorem outOf_sum (A : Ins Ideal) (c : Dev nD) (q : Fin 256) (n : Fin 1024) :
    outOf A c (ix2 q n) = ∑ d : Fin 8, rowsOf A c d (ix3 0 q n) := by
  have e : ∀ s t : ℕ, (t + s) % 8 = 0 → part A (sh t c) s = rowsOf A c (sh t c) := fun s t h =>
    part_rowsOf A c _ s ((sh_sh s t c).trans ((sh_mod _ c).symm.trans (by rw [h]; exact sh_zero c)))
  have n2 : nxt (nxt c) = sh 2 c := sh_sh 1 1 c
  have n3 : nxt (nxt (nxt c)) = sh 3 c := (congrArg nxt n2).trans (sh_sh 1 2 c)
  have p2 : prv (prv c) = sh 6 c := (sh_sh 7 7 c).trans (sh_mod 14 c).symm
  have p3 : prv (prv (prv c)) = sh 5 c := (congrArg prv p2).trans ((sh_sh 7 6 c).trans (sh_mod 13 c).symm)
  have p4 : prv (prv (prv (prv c))) = sh 4 c := (congrArg prv p3).trans ((sh_sh 7 5 c).trans (sh_mod 12 c).symm)
  have hs : (∑ d : Fin 8, rowsOf A c d (ix3 0 q n)) = ∑ t : Fin 8, rowsOf A c (sh t.val c) (ix3 0 q n) := by
    have hc : c.val < 8 := c.isLt
    let f : Fin 8 ≃ Fin 8 := ⟨fun t => sh t.val c, fun d => ⟨(d.val + (8 - c.val)) % 8, by omega⟩,
      fun t => Fin.ext (by have : t.val < 8 := t.isLt; simp only [sh]; omega), fun d => Fin.ext (by have : d.val < 8 := d.isLt; simp only [sh]; omega)⟩
    exact (f.sum_comp (fun d => rowsOf A c d (ix3 0 q n))).symm
  rw [hs, Fin.sum_univ_eight]
  have h0 : part A c 0 = rowsOf A c (sh ((0 : Fin 8).val) c) := (congrArg (fun d => part A d 0) (sh_zero c).symm).trans (e 0 0 rfl)
  refine (outOf_hops A c q n).trans ?_
  rw [h0, n3, p4, p3, p2, n2, show nxt c = sh 1 c from rfl, show prv c = sh 7 c from rfl, e 7 1 rfl, e 6 2 rfl, e 5 3 rfl, e 4 4 rfl, e 3 5 rfl, e 2 6 rfl, e 1 7 rfl]
  show _ + (rowsOf A c (sh 1 c) _ + (rowsOf A c (sh 2 c) _ + rowsOf A c (sh 3 c) _)) + (rowsOf A c (sh 7 c) _ + (rowsOf A c (sh 6 c) _ + (rowsOf A c (sh 5 c) _ + rowsOf A c (sh 4 c) _)))
    = _ + rowsOf A c (sh 1 c) _ + rowsOf A c (sh 2 c) _ + rowsOf A c (sh 3 c) _ + rowsOf A c (sh 4 c) _ + rowsOf A c (sh 5 c) _ + rowsOf A c (sh 6 c) _ + rowsOf A c (sh 7 c) _
  abel

end Cert.KernelIdeal.Exchange

end
-- ==== Proof.Operands.lean ====
/-
# The region's operands at an index

What the host operations before the region leave in its operands, over the device's argument buffers.
-/
module

public import proofs.«01_k».proof.Proof.Sum
public import proofs.«01_k».proof.Proof.Region
public import Idealize.ShloMosaic.Lib.StableHlo.ReadAt

@[expose] public section

noncomputable section

namespace Cert.KernelIdeal.Exchange

open Cert.KernelIdeal Cert.KernelIdeal.Gen
open Idealize.ShloMosaic Idealize.ShloMosaic.TcCoe

variable (m : (ℓ : Loc nD τ sig) → Buf (Elt Ideal) ℓ)

theorem x_at (c : Dev nD) (q : Fin 256) (l : Fin 1024) : (V1 m c main_v6 : FVec Ideal S256x1024 .bf16) (ix2 q l) = (m (((c : Dev nD).tc).loc main_arg0) : FVec Ideal S1x256x1024 .f32) (ix3 0 q l) := by
  unfold V1
  after_reads_at

theorem wq_at (c : Dev nD) (l j : Fin 1024) : (V1 m c main_v9 : FVec Ideal S1024x1024 .bf16) (ix2 l j)
    = HMul.hMul (α := EReal) (β := EReal) (γ := EReal) ((m (((c : Dev nD).tc).loc main_arg1) : FVec Ideal S1024x1024 .f32) (ix2 l j)) (Ideal.ofBits .f32 0x3DB504F3#32) := by
  unfold V1
  after_reads_at

theorem wo_at (c : Dev nD) (l j : Fin 1024) : (V1 m c main_v30 : FVec Ideal S1024x1024 .bf16) (ix2 l j)
    = (m (((c : Dev nD).tc).loc main_arg4) : FVec Ideal S1024x1024 .f32) (ix2 l j) := by
  unfold V1
  after_reads_at

theorem read_congr (f : S1x4096x64x128.Idx → Ideal .f32) {a a' b b' e e' : ℕ} (ha : a < 4096) (ha' : a' < 4096) (hb : b < 64) (hb' : b' < 64) (he : e < 128) (he' : e' < 128)
    (h1 : a = a') (h2 : b = b') (h3 : e = e') : f (ix4 0 ⟨a, ha⟩ ⟨b, hb⟩ ⟨e, he⟩) = f (ix4 0 ⟨a', ha'⟩ ⟨b', hb'⟩ ⟨e', he'⟩) := by
  subst h1 h2 h3; rfl

theorem start_k (c : Dev nD) : BitVec.toInt ((StableHlo.upto (hostOps0 c) (V0 m c) 22 (Proc.tc.devRef main_v14) : IVec S_ 32) ix0) = ((c.val * 8 : ℕ) : ℤ) := by
  after_reads_at
  fin_cases c <;> rfl

theorem start_k0 (c : Dev nD) : BitVec.toInt ((StableHlo.upto (hostOps0 c) (V0 m c) 22 (Proc.tc.devRef main_c_4) : IVec S_ 32) ix0) = ((0 : ℕ) : ℤ) := by
  after_reads_at
  rfl

theorem start_k2 (c : Dev nD) : BitVec.toInt ((StableHlo.upto (hostOps0 c) (V0 m c) 22 (Proc.tc.devRef main_c_5) : IVec S_ 32) ix0) = ((0 : ℕ) : ℤ) := by
  after_reads_at
  rfl

theorem kt_at (c : Dev nD) (p : Fin 4) (h : Fin 8) (r : Fin 1024) (d : Fin 128) : (V1 m c main_v19 : FVec Ideal S4x8x1024x128 .bf16) (ix4 p h r d)
    = (m (((c : Dev nD).tc).loc main_arg2) : FVec Ideal S1x4096x64x128 .f32) (ix4 0 ⟨(r.val / 64 * 4 + p.val) * 64 + r.val % 64, by omega⟩ ⟨c.val * 8 + h.val, by have : c.val < 8 := c.isLt; omega⟩ d) := by
  unfold V1
  after_reads_at
  have hc : c.val < 8 := c.isLt
  refine read_congr (V0 m c (Proc.tc.devRef main_arg2)) _ _ _ _ _ d.isLt ?_ ?_ ?_
  · rw [Host.clampedStart_of_le _ _ _ 0]
    · omega
    · exact start_k0 m c
    · decide
  · rw [Host.clampedStart_of_le _ _ _ (c.val * 8)]
    · exact start_k m c
    · show c.val * 8 + 8 ≤ 64
      omega
  · rw [Host.clampedStart_of_le _ _ _ 0]
    · omega
    · exact start_k2 m c
    · decide

theorem start_v (c : Dev nD) : BitVec.toInt ((StableHlo.upto (hostOps0 c) (V0 m c) 37 (Proc.tc.devRef main_v24) : IVec S_ 32) ix0) = ((c.val * 8 : ℕ) : ℤ) := by
  after_reads_at
  fin_cases c <;> rfl

theorem start_v0 (c : Dev nD) : BitVec.toInt ((StableHlo.upto (hostOps0 c) (V0 m c) 37 (Proc.tc.devRef main_c_9) : IVec S_ 32) ix0) = ((0 : ℕ) : ℤ) := by
  after_reads_at
  rfl

theorem start_v2 (c : Dev nD) : BitVec.toInt ((StableHlo.upto (hostOps0 c) (V0 m c) 37 (Proc.tc.devRef main_c_10) : IVec S_ 32) ix0) = ((0 : ℕ) : ℤ) := by
  after_reads_at
  rfl

theorem vt_at (c : Dev nD) (p : Fin 4) (h : Fin 8) (r : Fin 1024) (d : Fin 128) : (V1 m c main_v29 : FVec Ideal S4x8x1024x128 .bf16) (ix4 p h r d)
    = (m (((c : Dev nD).tc).loc main_arg3) : FVec Ideal S1x4096x64x128 .f32) (ix4 0 ⟨(r.val / 64 * 4 + p.val) * 64 + r.val % 64, by omega⟩ ⟨c.val * 8 + h.val, by have : c.val < 8 := c.isLt; omega⟩ d) := by
  unfold V1
  after_reads_at
  have hc : c.val < 8 := c.isLt
  refine read_congr (V0 m c (Proc.tc.devRef main_arg3)) _ _ _ _ _ d.isLt ?_ ?_ ?_
  · rw [Host.clampedStart_of_le _ _ _ 0]
    · omega
    · exact start_v0 m c
    · decide
  · rw [Host.clampedStart_of_le _ _ _ (c.val * 8)]
    · exact start_v m c
    · show c.val * 8 + 8 ≤ 64
      omega
  · rw [Host.clampedStart_of_le _ _ _ 0]
    · omega
    · exact start_v2 m c
    · decide

theorem result_at (c : Dev nD) (q : Fin 256) (n : Fin 1024) : (V3 m (outs m) c main_v32 : FVec Ideal S1x256x1024 .f32) (ix3 0 q n) = outOf (insA m) c (ix2 q n) := by
  unfold V3
  after_reads_at
  exact congrFun ((congrFun (V2_eq m c) _).trans (V2'_out m c)) (ix2 q n)

end Cert.KernelIdeal.Exchange

end
-- ==== Proof.Reference.lean ====
/-
# The reference, stage by stage

The reference's term, cut into the arrays its text names: queries, blocks of rows and of keys, mask, scores, weights,
context. Each stage is then read at an index.
-/
module

public import proofs.«01_k».proof.Proof.Gen.ReferenceIdeal.Run
public import Idealize.ShloMosaic.Lib.Pointwise
public import Idealize.ShloMosaic.Lib.Tactic.CleanTypes

@[expose] public section

noncomputable section

namespace Cert.ReferenceIdeal.Stages

open Cert.ReferenceIdeal Cert.ReferenceIdeal.Gen
open Idealize.ShloMosaic Idealize.ShloMosaic.TcCoe

/-- The block of 64 that each row is in. -/
def rowBlk : IVec S2048x1 32 :=
  broadcastInDim S2048x1 ![0] bcast_S2048_S2048x1_0
    (select (andi (cmpi .ne (signi (iotaInDim S2048 32 0)) (broadcastInDim S2048 ![] bcast_S_S2048 (signi (id (constantI S_ 32 64#32)))))
        (cmpi .ne (Host.remsi (iotaInDim S2048 32 0) (broadcastInDim S2048 ![] bcast_S_S2048 (id (constantI S_ 32 64#32)))) (broadcastInDim S2048 ![] bcast_S_S2048 (constantI S_ 32 0#32))))
      (subi (Host.divsi (iotaInDim S2048 32 0) (broadcastInDim S2048 ![] bcast_S_S2048 (id (constantI S_ 32 64#32)))) (broadcastInDim S2048 ![] bcast_S_S2048 (constantI S_ 32 1#32)))
      (Host.divsi (iotaInDim S2048 32 0) (broadcastInDim S2048 ![] bcast_S_S2048 (id (constantI S_ 32 64#32)))))

/-- The block of 64 that each key is in. -/
def colBlk : IVec S1x4096 32 :=
  broadcastInDim S1x4096 ![1] bcast_S4096_S1x4096_1
    (select (andi (cmpi .ne (signi (iotaInDim S4096 32 0)) (broadcastInDim S4096 ![] bcast_S_S4096 (signi (id (constantI S_ 32 64#32)))))
        (cmpi .ne (Host.remsi (iotaInDim S4096 32 0) (broadcastInDim S4096 ![] bcast_S_S4096 (id (constantI S_ 32 64#32)))) (broadcastInDim S4096 ![] bcast_S_S4096 (constantI S_ 32 0#32))))
      (subi (Host.divsi (iotaInDim S4096 32 0) (broadcastInDim S4096 ![] bcast_S_S4096 (id (constantI S_ 32 64#32)))) (broadcastInDim S4096 ![] bcast_S_S4096 (constantI S_ 32 1#32)))
      (Host.divsi (iotaInDim S4096 32 0) (broadcastInDim S4096 ![] bcast_S_S4096 (id (constantI S_ 32 64#32)))))

/-- The divisor 4 as the remainder's text takes it. -/
def four : IVec S_ 32 := select (cmpi .eq (id (constantI S_ 32 4#32)) (constantI S_ 32 0#32)) (constantI S_ 32 1#32) (id (constantI S_ 32 4#32))

/-- The phase of each key's block, its remainder by 4. -/
def colPh : IVec S1x4096 32 :=
  select (andi (cmpi .ne (cmpi .slt (Host.remsi colBlk (broadcastInDim S1x4096 ![] bcast_S_S1x4096 four)) (broadcastInDim S1x4096 ![] bcast_S_S1x4096 (constantI S_ 32 0#32)))
        (broadcastInDim S1x4096 ![] bcast_S_S1x4096 (cmpi .slt four (constantI S_ 32 0#32))))
      (cmpi .ne (Host.remsi colBlk (broadcastInDim S1x4096 ![] bcast_S_S1x4096 four)) (broadcastInDim S1x4096 ![] bcast_S_S1x4096 (constantI S_ 32 0#32))))
    (addi (Host.remsi colBlk (broadcastInDim S1x4096 ![] bcast_S_S1x4096 four)) (broadcastInDim S1x4096 ![] bcast_S_S1x4096 four))
    (Host.remsi colBlk (broadcastInDim S1x4096 ![] bcast_S_S1x4096 four))

/-- The phase of each row's block. -/
def rowPh : IVec S2048x1 32 :=
  select (andi (cmpi .ne (cmpi .slt (Host.remsi rowBlk (broadcastInDim S2048x1 ![] bcast_S_S2048x1 four)) (broadcastInDim S2048x1 ![] bcast_S_S2048x1 (constantI S_ 32 0#32)))
        (broadcastInDim S2048x1 ![] bcast_S_S2048x1 (cmpi .slt four (constantI S_ 32 0#32))))
      (cmpi .ne (Host.remsi rowBlk (broadcastInDim S2048x1 ![] bcast_S_S2048x1 four)) (broadcastInDim S2048x1 ![] bcast_S_S2048x1 (constantI S_ 32 0#32))))
    (addi (Host.remsi rowBlk (broadcastInDim S2048x1 ![] bcast_S_S2048x1 four)) (broadcastInDim S2048x1 ![] bcast_S_S2048x1 four))
    (Host.remsi rowBlk (broadcastInDim S2048x1 ![] bcast_S_S2048x1 four))

/-- Which keys a row attends to. -/
def mask : IVec S2048x4096 1 :=
  ori (cmpi .eq (broadcastInDim S2048x4096 ![0, 1] bcast_S2048x1_S2048x4096_0_1 rowBlk) (broadcastInDim S2048x4096 ![0, 1] bcast_S1x4096_S2048x4096_0_1 colBlk))
    (cmpi .eq (broadcastInDim S2048x4096 ![0, 1] bcast_S1x4096_S2048x4096_0_1 colPh) (broadcastInDim S2048x4096 ![0, 1] bcast_S2048x1_S2048x4096_0_1 rowPh))

/-- Which rows attend to something. -/
def keep : IVec S2048 1 := Host.reduce IntOp.ori mask (constantI S_ 1 0#1) reducesTo_S2048x4096_S2048_d1 h_S_

def scores (mk : IVec S2048x4096 1) (x : FVec Ideal S1x2048x1024 .f32) (wq : FVec Ideal S1024x8192 .f32) (k : FVec Ideal S1x4096x64x128 .f32) : FVec Ideal S1x64x2048x4096 .f32 :=
  select (broadcastInDim S1x64x2048x4096 ![0, 1, 2, 3] bcast_S1x1x2048x4096_S1x64x2048x4096_0_1_2_3 (broadcastInDim S1x1x2048x4096 ![2, 3] bcast_S2048x4096_S1x1x2048x4096_2_3 mk))
    (mulf (Host.dotGeneral dot_S1x2048x64x128_S1x4096x64x128_S1x64x2048x4096_3_3_1_1_02_02 none
        (shapeCast S1x2048x64x128 (Host.dotGeneral dot_S1x2048x1024_S1024x8192_S1x2048x8192_2_0_01_1_n_n none x wq) shapeCasts_S1x2048x8192_S1x2048x64x128) k)
      (broadcastInDim S1x64x2048x4096 ![] bcast_S_S1x64x2048x4096 (constant S_ .f32 0x3DB504F3#32)))
    (broadcastInDim S1x64x2048x4096 ![] bcast_S_S1x64x2048x4096 (id (constant S_ .f32 0xFF800000#32)))

/-- The exponentials, of the scores less their row's greatest. -/
def expo (s : FVec Ideal S1x64x2048x4096 .f32) : FVec Ideal S1x64x2048x4096 .f32 :=
  Host.exp (subf s (broadcastInDim S1x64x2048x4096 ![0, 1, 2, 3] bcast_S1x64x2048x1_S1x64x2048x4096_0_1_2_3
    (broadcastInDim S1x64x2048x1 ![0, 1, 2] bcast_S1x64x2048_S1x64x2048x1_0_1_2
      (Host.reduce FloatOps.maximumf s (constant S_ .f32 0xFF800000#32) reducesTo_S1x64x2048x4096_S1x64x2048_d3 h_S_))))

/-- The weights. -/
def weights (kp : IVec S2048 1) (e : FVec Ideal S1x64x2048x4096 .f32) : FVec Ideal S1x64x2048x4096 .f32 :=
  select (broadcastInDim S1x64x2048x4096 ![0, 1, 2, 3] bcast_S1x1x2048x1_S1x64x2048x4096_0_1_2_3 (broadcastInDim S1x1x2048x1 ![2] bcast_S2048_S1x1x2048x1_2 kp))
    (Host.divf e (broadcastInDim S1x64x2048x4096 ![0, 1, 2, 3] bcast_S1x64x2048x1_S1x64x2048x4096_0_1_2_3
      (select (broadcastInDim S1x64x2048x1 ![0, 1, 2, 3] bcast_S1x1x2048x1_S1x64x2048x1_0_1_2_3 (broadcastInDim S1x1x2048x1 ![2] bcast_S2048_S1x1x2048x1_2 kp))
        (broadcastInDim S1x64x2048x1 ![0, 1, 2] bcast_S1x64x2048_S1x64x2048x1_0_1_2
          (Host.reduceAdd e (constant S_ .f32 0x00000000#32) reducesTo_S1x64x2048x4096_S1x64x2048_d3 h_S_))
        (broadcastInDim S1x64x2048x1 ![] bcast_S_S1x64x2048x1 (id (constant S_ .f32 0x3F800000#32))))))
    (broadcastInDim S1x64x2048x4096 ![] bcast_S_S1x64x2048x4096 (id (constant S_ .f32 0x00000000#32)))

/-- The values mixed by the weights, and projected. -/
def output (w : FVec Ideal S1x64x2048x4096 .f32) (v : FVec Ideal S1x4096x64x128 .f32) (wo : FVec Ideal S8192x1024 .f32) : FVec Ideal S1x2048x1024 .f32 :=
  Host.dotGeneral dot_S1x2048x8192_S8192x1024_S1x2048x1024_2_0_01_1_n_n none
    (shapeCast S1x2048x8192 (transpose S1x2048x64x128 [0, 3, 1, 2] (Host.dotGeneral dot_S1x4096x64x128_S1x64x2048x4096_S1x64x128x2048_1_3_3_2_02_01 none v w)
      transposes_S1x64x128x2048_S1x2048x64x128_0_3_1_2) shapeCasts_S1x2048x64x128_S1x2048x8192) wo

set_option maxRecDepth 8192 in
theorem res_eq (m : (ℓ : Loc nD τ sig) → Buf (Elt Ideal) ℓ) (c : Dev nD) :
    (Value.res_out0 m c : FVec Ideal S1x2048x1024 .f32)
      = output (weights keep (expo (scores mask (m (c.tc.loc main_arg0)) (m (c.tc.loc main_arg1)) (m (c.tc.loc main_arg2)))))
          (m (c.tc.loc main_arg3)) (m (c.tc.loc main_arg4)) := by
  unfold Value.res_out0 Value.res_main_v39 output weights expo scores keep mask rowPh colPh four rowBlk colBlk
  rfl

end Cert.ReferenceIdeal.Stages

end
-- ==== Proof.Softmax.lean ====
/-
# One row of attention, over the extended reals

The softmax of a masked row, taken with the row's greatest score subtracted and the weights divided before the values
are mixed, is the plain quotient of exponentials over the keys that the mask keeps.
-/
module

public import Idealize.ShloMosaic.PureOps.Ideal
public import Mathlib.Data.EReal.Operations

@[expose] public section

noncomputable section

namespace Cert.Proof.Softmax

open Idealize.ShloMosaic

/-- A positive real multiplies through a sum of two extended reals, whatever they are. -/
theorem mul_add_pos {a : ℝ} (ha : 0 < a) (x y : EReal) : (a : EReal) * (x + y) = a * x + a * y := by
  induction x <;> induction y <;>
    simp [EReal.coe_mul_top_of_pos ha, EReal.coe_mul_bot_of_pos ha, ← EReal.coe_mul, ← EReal.coe_add, mul_add]

/-- A positive real multiplies through any finite sum. -/
theorem mul_sum_pos {ι : Type} {a : ℝ} (ha : 0 < a) (s : Finset ι) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, mul_add_pos ha, ih]

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

section Row
variable {R J : Type} [Fintype R] [Fintype J] {g : R → J} (hg : Function.Injective g) (r0 : R)
  {sc : J → EReal} {s : R → ℝ} (hs : ∀ r, sc (g r) = (s r : EReal)) (hm : ∀ j, j ∉ Set.range g → sc j = ⊥)

include r0 hs hm in
/-- The row's greatest score is real: some key is kept, and a kept key's score is real. -/
theorem greatest_real : ∃ M : ℝ, Finset.fold max ⊥ sc Finset.univ = (M : EReal) := by
  obtain ⟨j, -, hj⟩ := Finset.exists_mem_eq_sup Finset.univ ⟨g r0, Finset.mem_univ _⟩ sc
  have hM : Finset.fold max ⊥ sc Finset.univ = sc j := hj
  by_cases h : j ∈ Set.range g
  · obtain ⟨r, rfl⟩ := h
    exact ⟨s r, hM.trans (hs r)⟩
  · have hle : sc (g r0) ≤ Finset.univ.sup sc := Finset.le_sup (Finset.mem_univ _)
    rw [hj, hm j h, hs r0] at hle
    exact absurd (le_bot_iff.mp hle) (EReal.coe_ne_bot _)

include hg hs hm in
/-- A sum over the keys of what vanishes where the score is masked is a sum over the kept keys. -/
theorem sum_kept (F : J → EReal) (hF : ∀ j, sc j = ⊥ → F j = 0) : ∑ j, F j = ∑ r, F (g r) :=
  (Fintype.sum_of_injective g hg (fun r => F (g r)) F (fun j hj => hF j (hm j hj)) (fun _ => rfl)).symm

include hg r0 hs hm in
/-- One row attended: weights normalised first, over all keys with the masked ones at minus infinity, against the
    quotient of the two sums over the kept keys. -/
theorem attend (v : J → EReal) :
    ∑ j, v j * Ideal.div (Ideal.exp (sc j - Finset.fold max ⊥ sc Finset.univ)) (∑ k, Ideal.exp (sc k - Finset.fold max ⊥ sc Finset.univ))
      = Ideal.div (∑ r, Ideal.exp (s r) * v (g r)) (∑ r, Ideal.exp (s r)) := by
  obtain ⟨M, hM⟩ := greatest_real r0 hs hm
  rw [hM]
  have hbot : ∀ j, sc j = ⊥ → Ideal.exp (sc j - (M : EReal)) = 0 := fun j hj => by rw [hj]; rfl
  have hreal : ∀ r, Ideal.exp (sc (g r) - (M : EReal)) = ((Real.exp (s r) * (Real.exp M)⁻¹ : ℝ) : EReal) := fun r => by
    rw [hs r, ← EReal.coe_sub, ← Real.exp_neg, ← Real.exp_add, ← sub_eq_add_neg]; rfl
  have hexp : ∀ r, Ideal.exp ((s r : ℝ) : EReal) = ((Real.exp (s r) : ℝ) : EReal) := fun r => rfl
  have hpos : 0 < ∑ r, Real.exp (s r) := Finset.sum_pos (fun r _ => Real.exp_pos _) ⟨r0, Finset.mem_univ _⟩
  have hS : ∑ k, Ideal.exp (sc k - (M : EReal)) = (((∑ r, Real.exp (s r)) * (Real.exp M)⁻¹ : ℝ) : EReal) := by
    rw [sum_kept hg hs hm _ hbot, Finset.sum_congr rfl fun r _ => hreal r, coe_sum, Finset.sum_mul]
  have hT : ∑ r, Ideal.exp ((s r : ℝ) : EReal) = ((∑ r, Real.exp (s r) : ℝ) : EReal) := by
    rw [Finset.sum_congr rfl fun r _ => hexp r, coe_sum]
  have hSne : ((∑ r, Real.exp (s r)) * (Real.exp M)⁻¹ : ℝ) ≠ 0 := (mul_pos hpos (inv_pos.mpr (Real.exp_pos M))).ne'
  have hdiv : ∀ (x y : ℝ), y ≠ 0 → Ideal.div (x : EReal) (y : EReal) = ((x * y⁻¹ : ℝ) : EReal) := fun x y hy => by
    unfold Ideal.div; rw [if_neg (by exact_mod_cast hy), ← EReal.coe_inv, ← EReal.coe_mul]
  have hdivr : ∀ (x : EReal) (y : ℝ), y ≠ 0 → Ideal.div x (y : EReal) = ((y⁻¹ : ℝ) : EReal) * x := fun x y hy => by
    unfold Ideal.div; rw [if_neg (by exact_mod_cast hy), ← EReal.coe_inv, mul_comm]
  rw [hS, hT, hdivr _ _ hpos.ne', mul_sum_pos (inv_pos.mpr hpos),
    sum_kept hg hs hm (fun j => v j * _) (fun j hj => by
      rw [hbot j hj, ← EReal.coe_zero, hdiv _ _ hSne, zero_mul, EReal.coe_zero, mul_zero])]
  refine Finset.sum_congr rfl fun r _ => ?_
  rw [hreal r, hdiv _ _ hSne, hexp r, ← mul_assoc, ← EReal.coe_mul, mul_comm]
  congr 2
  have := (Real.exp_pos M).ne'
  field_simp

end Row

end Cert.Proof.Softmax

end
-- ==== Proof.ReferenceAt.lean ====
/-
# The reference at an index

Each stage of the reference read at an index: the mask keeps the keys of the row's phase, every row keeps something, and
the output is the sum over devices, heads and lanes of mixed values times output weights.
-/
module

public import proofs.«01_k».proof.Proof.Reference
public import proofs.«01_k».proof.Proof.Softmax
public import Idealize.ShloMosaic.Lib.Routing.OpsOrder

@[expose] public section

noncomputable section

namespace Cert.ReferenceIdeal.Stages

open Cert.ReferenceIdeal Cert.ReferenceIdeal.Gen
open Idealize.ShloMosaic Idealize.ShloMosaic.TcCoe

/-! ## The mask -/

/-- Division by 64 rounded down, as the text has it of one word. -/
def blkWord (w : BitVec 32) : BitVec 32 :=
  Scalar.select
    (IntOp.andi (IntOp.cmpi .ne (if w = 0 then (0 : BitVec 32) else if w.msb = true then -1 else 1) (if (64#32 : BitVec 32) = 0 then 0 else if (64#32 : BitVec 32).msb = true then -1 else 1))
      (IntOp.cmpi .ne (IntOp.remsi .host w 64#32) 0#32))
    (IntOp.subi (IntOp.divsi .host w 64#32) 1#32) (IntOp.divsi .host w 64#32)

theorem blkWord_ofNat : ∀ n : Fin 4096, blkWord (BitVec.ofNat 32 n.val) = BitVec.ofNat 32 (n.val / 64) := by decide +kernel

/-- The remainder by 4, as the text has it of one word. -/
def phWord (w : BitVec 32) : BitVec 32 :=
  Scalar.select
    (IntOp.andi (IntOp.cmpi .ne (IntOp.cmpi .slt (IntOp.remsi .host w 4#32) 0#32) (IntOp.cmpi .slt (4#32 : BitVec 32) 0#32))
      (IntOp.cmpi .ne (IntOp.remsi .host w 4#32) 0#32))
    (IntOp.addi (IntOp.remsi .host w 4#32) 4#32) (IntOp.remsi .host w 4#32)

theorem phWord_ofNat : ∀ n : Fin 64, phWord (BitVec.ofNat 32 n.val) = BitVec.ofNat 32 (n.val % 4) := by decide +kernel

theorem maskWord : ∀ (a : Fin 32) (b : Fin 64),
    IntOp.ori (IntOp.cmpi .eq (BitVec.ofNat 32 a.val) (BitVec.ofNat 32 b.val)) (IntOp.cmpi .eq (BitVec.ofNat 32 (b.val % 4)) (BitVec.ofNat 32 (a.val % 4)))
      = if b.val % 4 = a.val % 4 then 1#1 else 0#1 := by decide +kernel

theorem rowBlk_at (i : Fin 2048) : rowBlk (ix2 i 0) = BitVec.ofNat 32 (i.val / 64) := by
  pointwise [rowBlk]
  exact blkWord_ofNat ⟨i.val, by omega⟩

theorem colBlk_at (j : Fin 4096) : colBlk (ix2 0 j) = BitVec.ofNat 32 (j.val / 64) := by
  pointwise [colBlk]
  exact blkWord_ofNat j

theorem four_at : four ix0 = 4#32 := by
  pointwise [four]
  rfl

theorem rowPh_at (i : Fin 2048) : rowPh (ix2 i 0) = BitVec.ofNat 32 (i.val / 64 % 4) := by
  pointwise [rowPh]
  rw [four_at, rowBlk_at]
  exact phWord_ofNat ⟨i.val / 64, by omega⟩

theorem colPh_at (j : Fin 4096) : colPh (ix2 0 j) = BitVec.ofNat 32 (j.val / 64 % 4) := by
  pointwise [colPh]
  rw [four_at, colBlk_at]
  exact phWord_ofNat ⟨j.val / 64, by omega⟩

/-- A row attends to the keys whose block has its own block's phase; its own block is one of them. -/
theorem mask_at (i : Fin 2048) (j : Fin 4096) : mask (ix2 i j) = if j.val / 64 % 4 = i.val / 64 % 4 then 1#1 else 0#1 := by
  pointwise [mask]
  rw [rowBlk_at, colBlk_at, rowPh_at, colPh_at]
  exact maskWord ⟨i.val / 64, by omega⟩ ⟨j.val / 64, by omega⟩

theorem keep_at (i : Fin 2048) : keep (ix1 i) = 1#1 := by
  pointwise [keep]
  rw [Routing.fold_ori]
  exact ⟨⟨i.val, by omega⟩, Finset.mem_univ _, by rw [mask_at]; simp⟩

/-! ## The arrays -/

theorem minus_infinity : Ideal.ofBits .f32 0xFF800000#32 = ⊥ := by simp [Ideal.ofBits, Ideal.ieee]

theorem scores_at (mk : IVec S2048x4096 1) (x : FVec Ideal S1x2048x1024 .f32) (wq : FVec Ideal S1024x8192 .f32) (k : FVec Ideal S1x4096x64x128 .f32)
    (h : Fin 64) (i : Fin 2048) (j : Fin 4096) :
    scores mk x wq k (ix4 0 h i j) = Scalar.select (mk (ix2 i j))
      ((∑ d : Fin 128, (∑ l : Fin 1024, x (ix3 0 i l) * wq (ix2 l ⟨h.val * 128 + d.val, by omega⟩)) * k (ix4 0 j h d)) * Ideal.ofBits .f32 0x3DB504F3#32)
      (⊥ : EReal) := by
  pointwise [scores]
  exact congrArg (Scalar.select _ _) minus_infinity

theorem expo_at (s : FVec Ideal S1x64x2048x4096 .f32) (h : Fin 64) (i : Fin 2048) (j : Fin 4096) :
    expo s (ix4 0 h i j) = Ideal.exp (s (ix4 0 h i j) - Finset.fold max ⊥ (fun k : Fin 4096 => s (ix4 0 h i k)) Finset.univ) := by
  pointwise [expo]
  rw [minus_infinity]

theorem weights_at (kp : IVec S2048 1) (e : FVec Ideal S1x64x2048x4096 .f32) (h : Fin 64) (i : Fin 2048) (j : Fin 4096) (hk : kp (ix1 i) = 1#1) :
    weights kp e (ix4 0 h i j) = Ideal.div (e (ix4 0 h i j)) (∑ k : Fin 4096, e (ix4 0 h i k)) := by
  pointwise [weights]
  rw [hk]
  rfl

theorem output_at (w : FVec Ideal S1x64x2048x4096 .f32) (v : FVec Ideal S1x4096x64x128 .f32) (wo : FVec Ideal S8192x1024 .f32) (i : Fin 2048) (n : Fin 1024) :
    output w v wo (ix3 0 i n) = ∑ h : Fin 64, ∑ d : Fin 128, (∑ j : Fin 4096, v (ix4 0 j h d) * w (ix4 0 h i j)) * wo (ix2 ⟨h.val * 128 + d.val, by omega⟩ n) := by
  pointwise [output]
  rw [Fin.sum_univ_tiles 64 128 rfl]
  refine Finset.sum_congr rfl fun h _ => Finset.sum_congr rfl fun d _ => ?_
  have h1 : (⟨(h.val * 128 + d.val) / 128, by omega⟩ : Fin 64) = h := Fin.ext (by simp only []; omega)
  have h2 : (⟨(h.val * 128 + d.val) % 128, by omega⟩ : Fin 128) = d := Fin.ext (by simp only []; omega)
  simp only [h1, h2]

end Cert.ReferenceIdeal.Stages

end
-- ==== Proof.Join.lean ====
/-
# The kernel's sum is the reference's

The devices' partial outputs add up to the reference's output: head by head the kernel's quotient of sums over the keys of a
row's own phase is the reference's softmax over all keys, the masked ones at minus infinity.
-/
module

public import proofs.«01_k».proof.Proof.Sum
public import proofs.«01_k».proof.Proof.ReferenceAt
public import proofs.«01_k».proof.Proof.Softmax

@[expose] public section

noncomputable section

namespace Cert.Proof.Join

open Idealize.ShloMosaic
open Cert.KernelIdeal.Exchange
open Cert.KernelIdeal (nD)

/-- The scale, one over the square root of the head size, as the programs carry it. -/
def scale : EReal := Ideal.ofBits .f32 0x3DB504F3#32

theorem scale_real : ∃ r : ℝ, scale = (r : EReal) := by
  refine ⟨11863283 / 134217728, ?_⟩
  unfold scale
  simp [Ideal.ofBits, Ideal.ieee, -EReal.coe_mul]
  norm_num

/-- Scaling the query weights first or the score last gives one real number. -/
theorem scaled_score (x : Fin 1024 → EReal) (w : Fin 128 → Fin 1024 → EReal) (k : Fin 128 → EReal)
    (hx : ∀ l, ∃ r : ℝ, x l = (r : EReal)) (hw : ∀ d l, ∃ r : ℝ, w d l = (r : EReal)) (hk : ∀ d, ∃ r : ℝ, k d = (r : EReal)) :
    ∃ s : ℝ, (∑ d, (∑ l, x l * (w d l * scale)) * k d) = (s : EReal) ∧ (∑ d, (∑ l, x l * w d l) * k d) * scale = (s : EReal) := by
  obtain ⟨sr, hs⟩ := scale_real
  choose xr hx using hx
  choose wr hw using hw
  choose kr hk using hk
  refine ⟨∑ d, (∑ l, xr l * (wr d l * sr)) * kr d, ?_, ?_⟩
  · simp only [hx, hw, hk, hs, ← EReal.coe_mul, Cert.Proof.Softmax.coe_sum]
  · simp only [hx, hw, hk, hs, ← EReal.coe_mul, Cert.Proof.Softmax.coe_sum]
    refine congrArg _ ?_
    rw [Finset.sum_mul]
    refine Finset.sum_congr rfl fun d _ => ?_
    simp only [Finset.sum_mul]
    exact Finset.sum_congr rfl fun l _ => by ring

/-- The position of key `r` of phase `p` among all keys. -/
def place (p : Fin 4) (r : Fin 1024) : Fin 4096 := ⟨(r.val / 64 * 4 + p.val) * 64 + r.val % 64, by omega⟩

theorem place_injective (p : Fin 4) : Function.Injective (place p) := by
  intro r r' h
  have := congrArg Fin.val h
  simp only [place] at this
  exact Fin.ext (by omega)

theorem place_phase (p : Fin 4) (r : Fin 1024) : (place p r).val / 64 % 4 = p.val := by
  simp only [place]; omega

theorem phase_range (p : Fin 4) (j : Fin 4096) (h : j.val / 64 % 4 = p.val) : j ∈ Set.range (place p) :=
  ⟨⟨j.val / 256 * 64 + j.val % 64, by omega⟩, Fin.ext (by simp only [place]; omega)⟩

/-- Head `h` of device `D` among all heads. -/
def head (D h : Fin 8) : Fin 64 := ⟨D.val * 8 + h.val, by omega⟩

variable (X : FVec Ideal ⟨3, ![1, 2048, 1024]⟩ .f32) (WQ : FVec Ideal ⟨2, ![1024, 8192]⟩ .f32) (K V : FVec Ideal ⟨4, ![1, 4096, 64, 128]⟩ .f32)
  (WO : FVec Ideal ⟨2, ![8192, 1024]⟩ .f32)

/-- The region's operands are the blocks of the arrays, the query weights scaled and the keys and values sorted by phase. -/
structure Laid (A : Ins Ideal) : Prop where
  x : ∀ (c : Dev nD) (q : Fin 256) (l : Fin 1024) (i : Fin 2048), i.val = c.val * 256 + q.val → A.x c (ix2 q l) = X (ix3 0 i l)
  wq : ∀ (D : Fin 8) (l j : Fin 1024), A.wq D (ix2 l j) = HMul.hMul (α := EReal) (β := EReal) (γ := EReal) (WQ (ix2 l ⟨D.val * 1024 + j.val, by omega⟩)) scale
  kt : ∀ (D : Fin 8) (p : Fin 4) (h : Fin 8) (r : Fin 1024) (d : Fin 128), A.kt D (ix4 p h r d) = K (ix4 0 (place p r) (head D h) d)
  vt : ∀ (D : Fin 8) (p : Fin 4) (h : Fin 8) (r : Fin 1024) (d : Fin 128), A.vt D (ix4 p h r d) = V (ix4 0 (place p r) (head D h) d)
  wo : ∀ (D : Fin 8) (l n : Fin 1024), A.wo D (ix2 l n) = WO (ix2 ⟨D.val * 1024 + l.val, by omega⟩ n)

/-- The entries of `x`, of the query weights and of the keys are real numbers. -/
structure Reals : Prop where
  x : ∀ i l, ∃ r : ℝ, X (ix3 0 i l) = (r : EReal)
  wq : ∀ l j, ∃ r : ℝ, WQ (ix2 l j) = (r : EReal)
  k : ∀ j h d, ∃ r : ℝ, K (ix4 0 j h d) = (r : EReal)

variable {X WQ K V WO}

/-- A slot's score, over the whole arrays. -/
theorem slotScore_laid {A : Ins Ideal} (L : Laid X WQ K V WO A) (c : Dev nD) (D h : Fin 8) (p : Fin 4) (q : Fin 256) (r : Fin 1024) (i : Fin 2048) (hi : i.val = c.val * 256 + q.val) :
    slotScore (blk A c) (A.wq D) (A.kt D) h p q r
      = ∑ d : Fin 128, (∑ l : Fin 1024, HMul.hMul (α := EReal) (β := EReal) (γ := EReal) (X (ix3 0 i l)) (HMul.hMul (α := EReal) (β := EReal) (γ := EReal) (WQ (ix2 l ⟨(head D h).val * 128 + d.val, by omega⟩)) scale)) * K (ix4 0 (place p r) (head D h) d) := by
  unfold slotScore
  refine Finset.sum_congr rfl fun d _ => congrArg₂ (fun a b : EReal => a * b) (Finset.sum_congr rfl fun l _ => congrArg₂ (fun a b : EReal => a * b) ?_ ?_) (L.kt D p h r d)
  · rw [blk_at, L.x c q l i hi]
  · rw [L.wq]
    exact congrArg (fun j => HMul.hMul (α := EReal) (β := EReal) (γ := EReal) (WQ (ix2 l j)) scale) (Fin.ext (by simp only [head]; omega))

/-- One head: the kernel's quotient is the reference's softmax mix. -/
theorem head_join {A : Ins Ideal} (L : Laid X WQ K V WO A) (R : Reals X WQ K) (c : Dev nD) (D h : Fin 8) (p : Fin 4) (t : Fin 64) (q : Fin 256) (hq : q.val = p.val * 64 + t.val)
    (i : Fin 2048) (hi : i.val = c.val * 256 + q.val) (d : Fin 128) :
    Ideal.div (∑ r : Fin 1024, Ideal.exp (slotScore (blk A c) (A.wq D) (A.kt D) h p q r) * A.vt D (ix4 p h r d))
        (∑ r : Fin 1024, Ideal.exp (slotScore (blk A c) (A.wq D) (A.kt D) h p q r))
      = ∑ j : Fin 4096, V (ix4 0 j (head D h) d) * Cert.ReferenceIdeal.Stages.weights Cert.ReferenceIdeal.Stages.keep
          (Cert.ReferenceIdeal.Stages.expo (Cert.ReferenceIdeal.Stages.scores Cert.ReferenceIdeal.Stages.mask X WQ K)) (ix4 0 (head D h) i j) := by
  have hph : i.val / 64 % 4 = p.val := by omega
  have S := fun r => scaled_score (fun l => X (ix3 0 i l)) (fun d l => WQ (ix2 l ⟨(head D h).val * 128 + d.val, by omega⟩)) (fun d => K (ix4 0 (place p r) (head D h) d))
    (fun l => R.x _ _) (fun d l => R.wq _ _) (fun d => R.k _ _ _)
  choose s hk hr using S
  have hker : ∀ r, slotScore (blk A c) (A.wq D) (A.kt D) h p q r = (s r : EReal) := fun r => (slotScore_laid L c D h p q r i hi).trans (hk r)
  have hs : ∀ r, Cert.ReferenceIdeal.Stages.scores Cert.ReferenceIdeal.Stages.mask X WQ K (ix4 0 (head D h) i (place p r)) = (s r : EReal) := fun r => by
    rw [Cert.ReferenceIdeal.Stages.scores_at, Cert.ReferenceIdeal.Stages.mask_at, if_pos ((place_phase p r).trans hph.symm)]
    exact hr r
  have hm : ∀ j, j ∉ Set.range (place p) → Cert.ReferenceIdeal.Stages.scores Cert.ReferenceIdeal.Stages.mask X WQ K (ix4 0 (head D h) i j) = (⊥ : EReal) := fun j hj => by
    rw [Cert.ReferenceIdeal.Stages.scores_at, Cert.ReferenceIdeal.Stages.mask_at, if_neg fun e => hj (phase_range p j (e.trans hph))]
    rfl
  have key := Cert.Proof.Softmax.attend (g := place p) (s := s) (sc := fun j => Cert.ReferenceIdeal.Stages.scores Cert.ReferenceIdeal.Stages.mask X WQ K (ix4 0 (head D h) i j))
    (place_injective p) (0 : Fin 1024) hs hm (fun j => V (ix4 0 j (head D h) d))
  refine Eq.trans ?_ (key.symm.trans (Finset.sum_congr rfl fun j _ => congrArg (fun b : EReal => HMul.hMul (α := EReal) (β := EReal) (γ := EReal) (V (ix4 0 j (head D h) d)) b) ?_))
  · refine congrArg₂ Ideal.div (Finset.sum_congr rfl fun r _ => congrArg₂ (fun a b : EReal => a * b) (congrArg Ideal.exp (hker r)) (L.vt D p h r d)) (Finset.sum_congr rfl fun r _ => congrArg Ideal.exp (hker r))
  · rw [Cert.ReferenceIdeal.Stages.weights_at _ _ _ _ _ (Cert.ReferenceIdeal.Stages.keep_at i)]
    simp only [Cert.ReferenceIdeal.Stages.expo_at]

/-- A device's result is its rows of the reference's output. -/
theorem join {A : Ins Ideal} (L : Laid X WQ K V WO A) (R : Reals X WQ K) (c : Dev nD) (q : Fin 256) (n : Fin 1024) (i : Fin 2048) (hi : i.val = c.val * 256 + q.val) :
    outOf A c (ix2 q n) = Cert.ReferenceIdeal.Stages.output (Cert.ReferenceIdeal.Stages.weights Cert.ReferenceIdeal.Stages.keep
          (Cert.ReferenceIdeal.Stages.expo (Cert.ReferenceIdeal.Stages.scores Cert.ReferenceIdeal.Stages.mask X WQ K))) V WO (ix3 0 i n) := by
  rw [outOf_sum, Cert.ReferenceIdeal.Stages.output_at]
  refine Eq.trans ?_ (Fin.sum_univ_tiles 8 8 rfl _).symm
  refine Finset.sum_congr rfl fun D _ => ?_
  unfold rowsOf
  have hq : q.val = (⟨q.val / 64, by omega⟩ : Fin 4).val * 64 + (⟨q.val % 64, by omega⟩ : Fin 64).val := by simp only []; omega
  rw [slotF_at _ _ _ _ _ ⟨q.val / 64, by omega⟩ ⟨q.val % 64, by omega⟩ q hq n]
  refine Finset.sum_congr rfl fun h _ => Finset.sum_congr rfl fun d _ => congrArg₂ (fun a b : EReal => a * b) (head_join L R c D h _ _ q hq i hi d) ?_
  rw [L.wo]
  exact congrArg (fun j => WO (ix2 j n)) (Fin.ext (by simp only []; omega))

end Cert.Proof.Join

end
-- ==== Proof.Value.lean ====
/-
# The result

The kernel's result array, device by device, is the block of the reference's result.
-/
module

public import proofs.«01_k».proof.Proof.Frames
public import proofs.«01_k».proof.Proof.Finite
public import proofs.«01_k».proof.Proof.Operands
public import proofs.«01_k».proof.Proof.Join
public import Idealize.ShloMosaic.Lib.LayoutAt

@[expose] public section

noncomputable section

namespace Cert.Proof

open Idealize.ShloMosaic Idealize.SL.Sem
open Cert.KernelIdeal.Exchange

attribute [local instance] Cert.KernelIdeal.Gen.facts Cert.ReferenceIdeal.Gen.facts

variable {α : Type}

/-- Blocks of rows of the array of tokens, at an index, -/
theorem tokens_at (c : Fin 8) (v : Shape.Idx ⟨3, ![1, 2048, 1024]⟩ → α) (q : Fin 256) (l : Fin 1024) (i : Fin 2048) (hi : i.val = c.val * 256 + q.val) :
    Layout.block ⟨3, ![1, 256, 1024]⟩ ⟨3, ![1, 2048, 1024]⟩ 1 8 c v (by decide) (ix3 0 q l) = v (ix3 0 i l) := by
  rw [Layout.block_apply]
  refine congrArg v ?_
  shard_ext

/-- blocks of columns of the query weights, -/
theorem columns_at (c : Fin 8) (v : Shape.Idx ⟨2, ![1024, 8192]⟩ → α) (l j : Fin 1024) (i : Fin 8192) (hi : i.val = c.val * 1024 + j.val) :
    Layout.block ⟨2, ![1024, 1024]⟩ ⟨2, ![1024, 8192]⟩ 1 8 c v (by decide) (ix2 l j) = v (ix2 l i) := by
  rw [Layout.block_apply]
  refine congrArg v ?_
  shard_ext

/-- and blocks of rows of the output weights. -/
theorem lines_at (c : Fin 8) (v : Shape.Idx ⟨2, ![8192, 1024]⟩ → α) (l n : Fin 1024) (i : Fin 8192) (hi : i.val = c.val * 1024 + l.val) :
    Layout.block ⟨2, ![1024, 1024]⟩ ⟨2, ![8192, 1024]⟩ 0 8 c v (by decide) (ix2 l n) = v (ix2 i n) := by
  rw [Layout.block_apply]
  refine congrArg v ?_
  shard_ext

set_option maxHeartbeats 4000000 in
open Cert.KernelIdeal in
/-- The region's operands are laid out from the whole arrays. -/
theorem laid (m : (ℓ : Loc nD τ sig) → Buf (Elt Ideal) ℓ) (X : FVec Ideal ⟨3, ![1, 2048, 1024]⟩ .f32) (WQ : FVec Ideal ⟨2, ![1024, 8192]⟩ .f32)
    (K V : FVec Ideal ⟨4, ![1, 4096, 64, 128]⟩ .f32) (WO : FVec Ideal ⟨2, ![8192, 1024]⟩ .f32)
    (h : ∀ c : Dev nD, m (c.tc.loc main_arg0) = Layout.block ⟨3, ![1, 256, 1024]⟩ ⟨3, ![1, 2048, 1024]⟩ 1 8 c X
      ∧ m (c.tc.loc main_arg1) = Layout.block ⟨2, ![1024, 1024]⟩ ⟨2, ![1024, 8192]⟩ 1 8 c WQ
      ∧ m (c.tc.loc main_arg2) = K ∧ m (c.tc.loc main_arg3) = V
      ∧ m (c.tc.loc main_arg4) = Layout.block ⟨2, ![1024, 1024]⟩ ⟨2, ![8192, 1024]⟩ 0 8 c WO) :
    Join.Laid X WQ K V WO (insA m) where
  x := by
    intro c q l i hi
    exact (x_at m c q l).trans ((congrFun (h c).1 _).trans (tokens_at c X q l i hi))
  wq := by
    intro D l j
    exact (wq_at m D l j).trans (congrArg (fun a : EReal => a * Join.scale) ((congrFun (h D).2.1 _).trans (columns_at D WQ l j _ rfl)))
  kt := by
    intro D p hd r d
    exact (kt_at m D p hd r d).trans (congrFun (h D).2.2.1 _)
  vt := by
    intro D p hd r d
    exact (vt_at m D p hd r d).trans (congrFun (h D).2.2.2.1 _)
  wo := by
    intro D l n
    exact (wo_at m D l n).trans ((congrFun (h D).2.2.2.2 _).trans (lines_at D WO l n _ rfl))

open Cert.KernelIdeal in
/-- Where the precondition holds of every device's blocks, it holds of the whole arrays. -/
theorem reals (m : (ℓ : Loc nD τ sig) → Buf (Elt Ideal) ℓ) (X : FVec Ideal ⟨3, ![1, 2048, 1024]⟩ .f32) (WQ : FVec Ideal ⟨2, ![1024, 8192]⟩ .f32)
    (K V : FVec Ideal ⟨4, ![1, 4096, 64, 128]⟩ .f32) (WO : FVec Ideal ⟨2, ![8192, 1024]⟩ .f32)
    (hpre : Cert.Pre_KernelIdeal_finite_KernelIdeal m)
    (h : ∀ c : Dev nD, m (c.tc.loc main_arg0) = Layout.block ⟨3, ![1, 256, 1024]⟩ ⟨3, ![1, 2048, 1024]⟩ 1 8 c X
      ∧ m (c.tc.loc main_arg1) = Layout.block ⟨2, ![1024, 1024]⟩ ⟨2, ![1024, 8192]⟩ 1 8 c WQ
      ∧ m (c.tc.loc main_arg2) = K ∧ m (c.tc.loc main_arg3) = V
      ∧ m (c.tc.loc main_arg4) = Layout.block ⟨2, ![1024, 1024]⟩ ⟨2, ![8192, 1024]⟩ 0 8 c WO) :
    Join.Reals X WQ K where
  x i l := by
    have hd : i.val / 256 < 8 := by omega
    have e := (congrFun (h ⟨i.val / 256, hd⟩).1 _).trans (tokens_at ⟨i.val / 256, hd⟩ X ⟨i.val % 256, by omega⟩ l i (by simp only []; omega))
    obtain ⟨r, hr⟩ := (finite_entries _ _ _ _ _ (hpre ⟨i.val / 256, hd⟩)).1 (ix3 0 ⟨i.val % 256, by omega⟩ l)
    exact ⟨r, e.symm.trans hr⟩
  wq l j := by
    have hd : j.val / 1024 < 8 := by omega
    have e := (congrFun (h ⟨j.val / 1024, hd⟩).2.1 _).trans (columns_at ⟨j.val / 1024, hd⟩ WQ l ⟨j.val % 1024, by omega⟩ j (by simp only []; omega))
    obtain ⟨r, hr⟩ := (finite_entries _ _ _ _ _ (hpre ⟨j.val / 1024, hd⟩)).2.1 (ix2 l ⟨j.val % 1024, by omega⟩)
    exact ⟨r, e.symm.trans hr⟩
  k j hd d := by
    obtain ⟨r, hr⟩ := (finite_entries _ _ _ _ _ (hpre 0)).2.2 (ix4 0 j hd d)
    exact ⟨r, (congrFun (h 0).2.2.1 _).symm.trans hr⟩

/-- The kernel computes, on every device, its block of the reference's result. -/
theorem algebraic : Cert.algebraic_KernelIdeal_ReferenceIdeal_pre_finite_KernelIdeal := by
  intro m g m' g' hpre h
  have L := laid m _ _ _ _ _ h
  have R := reals m _ _ _ _ _ hpre h
  refine ⟨Cert.ReferenceIdeal.Value.res_out0 m' 0, ?_, ?_⟩
  · refine (θ_run Cert.KernelIdeal.defs _ _).mono (fun r hr c => ⟨(hr.1 c).2.trans ?_, (hr.1 c).1⟩) (run_main (F := Ideal) m g)
    refine funext fun (j : Shape.Idx ⟨3, ![1, 256, 1024]⟩) => ?_
    obtain ⟨z, q, n, rfl⟩ : ∃ (z : Fin 1) (q : Fin 256) (n : Fin 1024), j = ix3 z q n := ⟨j 0, j 1, j 2, by idx_vars j⟩
    obtain rfl : z = 0 := Subsingleton.elim _ _
    have hc : c.val < 8 := c.isLt
    refine (result_at m c q n).trans ((Join.join L R c q n ⟨c.val * 256 + q.val, by omega⟩ rfl).trans ?_)
    refine Eq.trans ?_ (tokens_at c _ q n ⟨c.val * 256 + q.val, by omega⟩ rfl).symm
    exact (congrFun (Cert.ReferenceIdeal.Stages.res_eq m' 0) _).symm
  · exact (θ_run Cert.ReferenceIdeal.defs _ _).mono (fun r hr => hr 0) (Cert.ReferenceIdeal.Value.run (F := Ideal) m' g')

end Cert.Proof

end
-- ==== Proof.lean ====
module

public import proofs.«01_k».proof.Defs
public import proofs.«01_k».proof.Proof.Frames
public import proofs.«01_k».proof.Proof.Finite
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, preFacts, preFactsReference,
    frame_kernel, frame_kernel_ideal, fun m ρ _ => frame_kernel_ideal m ρ trivial, frame_reference_ideal, fun m ρ _ => frame_reference_ideal m ρ trivial,
    trivial, algebraic⟩

end Cert.Proof

end
